-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_single_segment [hPre_single_segment : Cert.Pre_single_segment.Facts] (m : (ℓ : Loc Cert.KernelIdeal.nD Cert.KernelIdeal.τ Cert.KernelIdeal.sig) → Buf (Elt Ideal) ℓ) : Prop :=
  ∀ c : Dev Cert.KernelIdeal.nD,
    (Cert.Pre_single_segment.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_single_segment.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_single_segment [hPre_single_segment : Cert.Pre_single_segment.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_single_segment.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_single_segment.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_single_segment [hKernelIdeal : Cert.KernelIdeal.Facts] [hPre_single_segment : Cert.Pre_single_segment.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_single_segment m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_single_segment [hReferenceIdeal : Cert.ReferenceIdeal.Facts] [hPre_single_segment : Cert.Pre_single_segment.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_single_segment m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_single_segment [hKernelIdeal : Cert.KernelIdeal.Facts] [hReferenceIdeal : Cert.ReferenceIdeal.Facts] [hPre_single_segment : Cert.Pre_single_segment.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_single_segment m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_single_segment : Cert.Pre_single_segment.Facts),
    quiescent_Kernel (hKernel := hKernel)
    ∧ quiescent_KernelIdeal (hKernelIdeal := hKernelIdeal)
    ∧ quiescent_KernelIdeal_pre_single_segment (hKernelIdeal := hKernelIdeal) (hPre_single_segment := hPre_single_segment)
    ∧ quiescent_ReferenceIdeal (hReferenceIdeal := hReferenceIdeal)
    ∧ quiescent_ReferenceIdeal_pre_single_segment (hReferenceIdeal := hReferenceIdeal) (hPre_single_segment := hPre_single_segment)
    ∧ preserves_Kernel_KernelIdeal
    ∧ algebraic_KernelIdeal_ReferenceIdeal_pre_single_segment (hKernelIdeal := hKernelIdeal) (hReferenceIdeal := hReferenceIdeal) (hPre_single_segment := hPre_single_segment)
-- ==== Pre_single_segment.lean ====
abbrev S8192x1024 : Shape := ⟨2, ![8192, 1024]⟩
abbrev S1x1024x1 : Shape := ⟨3, ![1, 1024, 1]⟩
abbrev S1x1024x16 : Shape := ⟨3, ![1, 1024, 16]⟩
abbrev S_ : Shape := ⟨0, ![]⟩
abbrev S1x1024x17 : Shape := ⟨3, ![1, 1024, 17]⟩
abbrev S8192x1024x1 : Shape := ⟨3, ![8192, 1024, 1]⟩
abbrev S1x1024x15 : Shape := ⟨3, ![1, 1024, 15]⟩
abbrev S8192x1024x15 : Shape := ⟨3, ![8192, 1024, 15]⟩

class Facts : Prop where
  bcast_S_S1x1024x16 : S_.BroadcastsInDim S1x1024x16 (![] : Fin 0 → Fin S1x1024x16.rank)
  bcast_S_S_ : S_.BroadcastsInDim S_ (![] : Fin 0 → Fin S_.rank)
  reduceWindows_S1x1024x16_S1x1024x16_w1s1p0_0_w1s1p0_0_w16s1p15_0 : S1x1024x16.ReduceWindows (![1, 1, 16] : Fin 3 → Nat) ![1, 1, 1] ![0, 0, 15] ![0, 0, 0] S1x1024x16
  h_S_ : 0 < S_.numel
  bcast_S1x1024x1_S1x1024x16_0_1_2 : S1x1024x1.BroadcastsInDim S1x1024x16 (![0, 1, 2] : Fin 3 → Fin S1x1024x16.rank)
  concatenates_S1x1024x1_S1x1024x16_S1x1024x17_d2 : Shape.Concatenates [S1x1024x1, S1x1024x16] S1x1024x17 2
  bcast_S_S1x1024x17 : S_.BroadcastsInDim S1x1024x17 (![] : Fin 0 → Fin S1x1024x17.rank)
  slices_S1x1024x17_S1x1024x1_0_0_16 : S1x1024x17.Slices ![0, 0, 16] S1x1024x1
  slices_S1x1024x17_S1x1024x1_0_0_0 : S1x1024x17.Slices ![0, 0, 0] S1x1024x1
  bcast_S_S1x1024x1 : S_.BroadcastsInDim S1x1024x1 (![] : Fin 0 → Fin S1x1024x1.rank)
  bcast_S1x1024x1_S1x1024x17_0_1_2 : S1x1024x1.BroadcastsInDim S1x1024x17 (![0, 1, 2] : Fin 3 → Fin S1x1024x17.rank)
  bcast_S8192x1024_S8192x1024x1_0_1 : S8192x1024.BroadcastsInDim S8192x1024x1 (![0, 1] : Fin 2 → Fin S8192x1024x1.rank)
  slices_S1x1024x17_S1x1024x15_0_0_1 : S1x1024x17.Slices ![0, 0, 1] S1x1024x15
  bcast_S8192x1024x1_S8192x1024x15_0_1_2 : S8192x1024x1.BroadcastsInDim S8192x1024x15 (![0, 1, 2] : Fin 3 → Fin S8192x1024x15.rank)
  bcast_S1x1024x15_S8192x1024x15_0_1_2 : S1x1024x15.BroadcastsInDim S8192x1024x15 (![0, 1, 2] : Fin 3 → Fin S8192x1024x15.rank)
  reducesTo_S8192x1024x15_S_d0_1_2 : S8192x1024x15.ReducesTo [0, 1, 2] S_
  reducesTo_S1x1024x16_S_d0_1_2 : S1x1024x16.ReducesTo [0, 1, 2] S_

variable [Facts]

def fn_softplus {F : FTy → Type} [FloatOps F] (arg0 : FVec F S1x1024x16 .f32) : FVec F S1x1024x16 .f32 :=
  let cst : FVec F S_ .f32 := constant S_ .f32 0x00000000#32
  let v0 : FVec F S1x1024x16 .f32 := broadcastInDim S1x1024x16 ![] bcast_S_S1x1024x16 cst
  let v1 : FVec F S1x1024x16 .f32 := maximumf arg0 v0
  let v2 : FVec F S1x1024x16 .f32 := broadcastInDim S1x1024x16 ![] bcast_S_S1x1024x16 cst
  let v3 : FVec F S1x1024x16 .f32 := subf arg0 v2
  let v4 : IVec S1x1024x16 1 := cmpf .une v3 v3
  let v5 : FVec F S1x1024x16 .f32 := broadcastInDim S1x1024x16 ![] bcast_S_S1x1024x16 cst
  let v6 : FVec F S1x1024x16 .f32 := addf arg0 v5
  let v7 : FVec F S1x1024x16 .f32 := Host.absf v3
  let v8 : FVec F S1x1024x16 .f32 := Host.negf v7
  let v9 : FVec F S1x1024x16 .f32 := Host.exp v8
  let v10 : FVec F S1x1024x16 .f32 := Host.log1p v9
  let v11 : FVec F S1x1024x16 .f32 := addf v1 v10
  let v12 : FVec F S1x1024x16 .f32 := select v4 v6 v11
  v12

def fn_cumsum_0 {F : FTy → Type} [FloatOps F] (arg0 : FVec F S1x1024x16 .f32) : FVec F S1x1024x16 .f32 :=
  let cst : FVec F S_ .f32 := constant S_ .f32 0x00000000#32
  let v0 : FVec F S_ .f32 := broadcastInDim S_ ![] bcast_S_S_ cst
  let v1 : FVec F S1x1024x16 .f32 := (fun x v => Host.reduceWindowAdd ![1, 1, 16] ![1, 1, 1] ![0, 0, 15] ![0, 0, 0] x v reduceWindows_S1x1024x16_S1x1024x16_w1s1p0_0_w1s1p0_0_w16s1p15_0 h_S_) arg0 v0
  v1

def fn_cumsum {F : FTy → Type} [FloatOps F] (arg0 : FVec F S1x1024x16 .f32) : FVec F S1x1024x16 .f32 :=
  let v0 : FVec F S1x1024x16 .f32 := fn_cumsum_0 (F := F) arg0
  v0

def fn_part1 {F : FTy → Type} [FloatOps F] (main_arg4 : FVec F S1x1024x16 .f32) (main_v20 : IVec S8192x1024x15 1) : IVec S_ 1 × IVec S_ 1 :=
  let main_c : IVec S_ 1 := constantI S_ 1 1#1
  let main_v21 : IVec S_ 1 := (fun x v => Host.reduce IntOp.andi x v reducesTo_S8192x1024x15_S_d0_1_2 h_S_) main_v20 main_c
  let main_v22 : FVec F S1x1024x16 .f32 := Host.absf main_arg4
  let main_cst_2 : FVec F S_ .f32 := constant S_ .f32 0x7F800000#32
  let main_v23 : FVec F S1x1024x16 .f32 := broadcastInDim S1x1024x16 ![] bcast_S_S1x1024x16 main_cst_2
  let main_v24 : IVec S1x1024x16 1 := cmpf .olt main_v22 main_v23
  let main_c_3 : IVec S_ 1 := constantI S_ 1 1#1
  let main_v25 : IVec S_ 1 := (fun x v => Host.reduce IntOp.andi x v reducesTo_S1x1024x16_S_d0_1_2 h_S_) main_v24 main_c_3
  (main_v21, main_v25)

def fn {F : FTy → Type} [FloatOps F] (main_arg0 : FVec F S8192x1024 .f32) (main_arg1 : FVec F S1x1024x1 .f32) (main_arg2 : FVec F S1x1024x16 .f32) (main_arg3 : FVec F S1x1024x1 .f32) (main_arg4 : FVec F S1x1024x16 .f32) : IVec S_ 1 × IVec S_ 1 :=
  let main_v0 : FVec F S1x1024x16 .f32 := fn_softplus (F := F) main_arg2
  let main_v1 : FVec F S1x1024x16 .f32 := fn_cumsum (F := F) main_v0
  let main_v2 : FVec F S1x1024x16 .f32 := broadcastInDim S1x1024x16 ![0, 1, 2] bcast_S1x1024x1_S1x1024x16_0_1_2 main_arg1
  let main_v3 : FVec F S1x1024x16 .f32 := addf main_v1 main_v2
  let main_v4 : FVec F S1x1024x17 .f32 := (fun a b => concatenate S1x1024x17 2 [⟨S1x1024x1, a⟩, ⟨S1x1024x16, b⟩] concatenates_S1x1024x1_S1x1024x16_S1x1024x17_d2) main_arg1 main_v3
  let main_cst : FVec F S_ .f32 := constant S_ .f32 0x00000000#32
  let main_v5 : FVec F S1x1024x17 .f32 := broadcastInDim S1x1024x17 ![] bcast_S_S1x1024x17 main_cst
  let main_v6 : FVec F S1x1024x17 .f32 := subf main_v4 main_v5
  let main_v7 : FVec F S1x1024x1 .f32 := (extractStridedSlice S1x1024x1 ![0, 0, 16] · slices_S1x1024x17_S1x1024x1_0_0_16) main_v6
  let main_v8 : FVec F S1x1024x1 .f32 := (extractStridedSlice S1x1024x1 ![0, 0, 0] · slices_S1x1024x17_S1x1024x1_0_0_0) main_v6
  let main_v9 : FVec F S1x1024x1 .f32 := subf main_v7 main_v8
  let main_cst_0 : FVec F S_ .f32 := constant S_ .f32 0x3F800000#32
  let main_v10 : FVec F S1x1024x1 .f32 := broadcastInDim S1x1024x1 ![] bcast_S_S1x1024x1 main_cst_0
  let main_v11 : FVec F S1x1024x1 .f32 := Host.divf main_v10 main_v9
  let main_v12 : FVec F S1x1024x17 .f32 := broadcastInDim S1x1024x17 ![0, 1, 2] bcast_S1x1024x1_S1x1024x17_0_1_2 main_v11
  let main_v13 : FVec F S1x1024x17 .f32 := mulf main_v6 main_v12
  let main_cst_1 : FVec F S_ .f32 := constant S_ .f32 0x00000000#32
  let main_v14 : FVec F S1x1024x17 .f32 := broadcastInDim S1x1024x17 ![] bcast_S_S1x1024x17 main_cst_1
  let main_v15 : FVec F S1x1024x17 .f32 := addf main_v13 main_v14
  let main_v16 : FVec F S8192x1024x1 .f32 := broadcastInDim S8192x1024x1 ![0, 1] bcast_S8192x1024_S8192x1024x1_0_1 main_arg0
  let main_v17 : FVec F S1x1024x15 .f32 := (extractStridedSlice S1x1024x15 ![0, 0, 1] · slices_S1x1024x17_S1x1024x15_0_0_1) main_v15
  let main_v18 : FVec F S8192x1024x15 .f32 := broadcastInDim S8192x1024x15 ![0, 1, 2] bcast_S8192x1024x1_S8192x1024x15_0_1_2 main_v16
  let main_v19 : FVec F S8192x1024x15 .f32 := broadcastInDim S8192x1024x15 ![0, 1, 2] bcast_S1x1024x15_S8192x1024x15_0_1_2 main_v17
  let main_v20 : IVec S8192x1024x15 1 := cmpf .une main_v18 main_v19
  fn_part1 (F := F) main_arg4 main_v20
-- ==== Kernel.lean ====
abbrev S8192x1024 : Shape := ⟨2, ![8192, 1024]⟩
abbrev S1x1024x1 : Shape := ⟨3, ![1, 1024, 1]⟩
abbrev S1x1024x16 : Shape := ⟨3, ![1, 1024, 16]⟩
abbrev S1024x1 : Shape := ⟨2, ![1024, 1]⟩
abbrev S1x1024 : Shape := ⟨2, ![1, 1024]⟩
abbrev S1024x16 : Shape := ⟨2, ![1024, 16]⟩
abbrev S16x1024 : Shape := ⟨2, ![16, 1024]⟩
abbrev S49x1024 : Shape := ⟨2, ![49, 1024]⟩
abbrev S1024 : Shape := ⟨1, ![1024]⟩
abbrev S49x16 : Shape := ⟨2, ![49, 16]⟩
abbrev S16 : Shape := ⟨1, ![16]⟩
abbrev S_ : Shape := ⟨0, ![]⟩
abbrev S1x16 : Shape := ⟨2, ![1, 16]⟩

abbrev nBuf : Table → Nat
  | .hbm => 15
  | .local .tc .vmem => 5
  | .local .scVector .vmem => 3
  | _ => 0

abbrev bufTy : (tb : Table) → Fin (nBuf tb) → BufTy
  | .hbm, ⟨0, _⟩ => ⟨S8192x1024, .f32⟩
  | .hbm, ⟨1, _⟩ => ⟨S1x1024x1, .f32⟩
  | .hbm, ⟨2, _⟩ => ⟨S1x1024x16, .f32⟩
  | .hbm, ⟨3, _⟩ => ⟨S1x1024x1, .f32⟩
  | .hbm, ⟨4, _⟩ => ⟨S1x1024x16, .f32⟩
  | .hbm, ⟨5, _⟩ => ⟨S1024x1, .f32⟩
  | .hbm, ⟨6, _⟩ => ⟨S1x1024, .f32⟩
  | .hbm, ⟨7, _⟩ => ⟨S1024x1, .f32⟩
  | .hbm, ⟨8, _⟩ => ⟨S1x1024, .f32⟩
  | .hbm, ⟨9, _⟩ => ⟨S1024x16, .f32⟩
  | .hbm, ⟨10, _⟩ => ⟨S16x1024, .f32⟩
  | .hbm, ⟨11, _⟩ => ⟨S1024x16, .f32⟩
  | .hbm, ⟨12, _⟩ => ⟨S16x1024, .f32⟩
  | .hbm, ⟨13, _⟩ => ⟨S49x1024, .f32⟩
  | .hbm, ⟨14, _⟩ => ⟨S8192x1024, .f32⟩
  | .local .tc .vmem, ⟨0, _⟩ => ⟨S1x1024, .f32⟩
  | .local .tc .vmem, ⟨1, _⟩ => ⟨S16x1024, .f32⟩
  | .local .tc .vmem, ⟨2, _⟩ => ⟨S1x1024, .f32⟩
  | .local .tc .vmem, ⟨3, _⟩ => ⟨S16x1024, .f32⟩
  | .local .tc .vmem, ⟨4, _⟩ => ⟨S49x1024, .f32⟩
  | .local .scVector .vmem, ⟨0, _⟩ => ⟨S49x16, .f32⟩
  | .local .scVector .vmem, ⟨1, _⟩ => ⟨S1024x16, .f32⟩
  | .local .scVector .vmem, ⟨2, _⟩ => ⟨S1024x16, .f32⟩
  | _, _ => ⟨S8192x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_arg0_scv : Ref sig .scVector := ⟨.hbm, 0, rfl⟩
abbrev main_v8_scv : Ref sig .scVector := ⟨.hbm, 13, rfl⟩
abbrev main_v9_scv : Ref sig .scVector := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S49x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let c0_i32_67_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c0_i32 : BitVec 32 := 0#32
  let v4 : BitVec 32 := Scalar.addi v3 c0_i32
  let c16_i32 : BitVec 32 := 16#32
  let v5 : BitVec 32 := Scalar.muli v4 c16_i32
  ![0, v5.toNat]
@[reducible] def k1_t1_loop : Scf.Loop 32 :=
  let c0_i32_21 : BitVec 32 := 0#32
  let c8_i32_22 : BitVec 32 := 8#32
  let v57 : BitVec 32 := Scalar.addi c0_i32_21 c8_i32_22
  let c1_i32_23 : BitVec 32 := 1#32
  ⟨c0_i32_21, v57, c1_i32_23⟩
def k1_off2 (i : grid1.Coords) (k1_t1 : Fin k1_t1_loop.trips) : Fin 2 → Nat :=
  let c0_i32_21 : BitVec 32 := 0#32
  let c1_i32_23 : BitVec 32 := 1#32
  let arg8 : BitVec 32 := Scf.iv c0_i32_21 c1_i32_23 k1_t1
  let c1024_i32 : BitVec 32 := 1024#32
  let v115 : BitVec 32 := Scalar.muli arg8 c1024_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c0_i32 : BitVec 32 := 0#32
  let v4 : BitVec 32 := Scalar.addi v3 c0_i32
  let c16_i32 : BitVec 32 := 16#32
  let v5 : BitVec 32 := Scalar.muli v4 c16_i32
  ![v115.toNat, v5.toNat]
@[reducible] def k1_t2_loop : Scf.Loop 32 :=
  let c0_i32_68 : BitVec 32 := 0#32
  let c1024_i32_69 : BitVec 32 := 1024#32
  let v116 : BitVec 32 := Scalar.addi c0_i32_68 c1024_i32_69
  let c1_i32_70 : BitVec 32 := 1#32
  ⟨c0_i32_68, v116, c1_i32_70⟩
def k1_off3 (k1_t2 : Fin k1_t2_loop.trips) : Fin 2 → Nat :=
  let c0_i32_68 : BitVec 32 := 0#32
  let c1_i32_70 : BitVec 32 := 1#32
  let arg10 : BitVec 32 := Scf.iv c0_i32_68 c1_i32_70 k1_t2
  let v118 : Index := Scalar.indexCast arg10
  let c0_73 : Index := 0#32
  ![v118.toNat, 0]

def k1_chk1 (v2 : IVec S16 32) (v168 : IVec S16 32) : Prop :=
  (∀ a x, ((![v168, v2] : Fin 2 → IVec S16 32) a x).toNat < S49x16.size a)
theorem k1_idx1_inb : ∀ (v2 : IVec S16 32) (v168 : IVec S16 32) (k1_hw1 : k1_chk1 v2 v168), ∀ a x, ((![v168, v2] : Fin 2 → IVec S16 32) a x).toNat < S49x16.size a := fun v2 v168 k1_hw1 => k1_hw1

def k1_chk2 (v2 : IVec S16 32) (v171 : IVec S16 32) : Prop :=
  (∀ a x, ((![v171, v2] : Fin 2 → IVec S16 32) a x).toNat < S49x16.size a)
theorem k1_idx2_inb : ∀ (v2 : IVec S16 32) (v171 : IVec S16 32) (k1_hw2 : k1_chk2 v2 v171), ∀ a x, ((![v171, v2] : Fin 2 → IVec S16 32) a x).toNat < S49x16.size a := fun v2 v171 k1_hw2 => k1_hw2
def k1_off4 (k1_t2 : Fin k1_t2_loop.trips) : Fin 2 → Nat :=
  let c0_i32_68 : BitVec 32 := 0#32
  let c1_i32_70 : BitVec 32 := 1#32
  let arg10 : BitVec 32 := Scf.iv c0_i32_68 c1_i32_70 k1_t2
  let v179 : Index := Scalar.indexCast arg10
  let c0_75 : Index := 0#32
  ![v179.toNat, 0]
def k1_off5 (i : grid1.Coords) (k1_t1 : Fin k1_t1_loop.trips) : Fin 2 → Nat :=
  let c0_i32_21 : BitVec 32 := 0#32
  let c1_i32_23 : BitVec 32 := 1#32
  let arg8 : BitVec 32 := Scf.iv c0_i32_21 c1_i32_23 k1_t1
  let c1024_i32 : BitVec 32 := 1024#32
  let v115 : BitVec 32 := Scalar.muli arg8 c1024_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c0_i32 : BitVec 32 := 0#32
  let v4 : BitVec 32 := Scalar.addi v3 c0_i32
  let c16_i32 : BitVec 32 := 16#32
  let v5 : BitVec 32 := Scalar.muli v4 c16_i32
  ![v115.toNat, v5.toNat]
def k1_off6 (i : grid1.Coords) : Fin 2 → Nat :=
  let c0_i32_67_r3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_25 : BitVec 32 := 2#32
  let v59 : BitVec 32 := Scalar.muli v1 c2_i32_25
  let c1_i32_26 : BitVec 32 := 1#32
  let v60 : BitVec 32 := Scalar.addi v59 c1_i32_26
  let c16_i32_27 : BitVec 32 := 16#32
  let v61 : BitVec 32 := Scalar.muli v60 c16_i32_27
  ![0, v61.toNat]
@[reducible] def k1_t3_loop : Scf.Loop 32 :=
  let c0_i32_63 : BitVec 32 := 0#32
  let c8_i32_64 : BitVec 32 := 8#32
  let v113 : BitVec 32 := Scalar.addi c0_i32_63 c8_i32_64
  let c1_i32_65 : BitVec 32 := 1#32
  ⟨c0_i32_63, v113, c1_i32_65⟩
def k1_off7 (i : grid1.Coords) (k1_t3 : Fin k1_t3_loop.trips) : Fin 2 → Nat :=
  let c0_i32_63 : BitVec 32 := 0#32
  let c1_i32_65 : BitVec 32 := 1#32
  let arg8 : BitVec 32 := Scf.iv c0_i32_63 c1_i32_65 k1_t3
  let c1024_i32 : BitVec 32 := 1024#32
  let v115 : BitVec 32 := Scalar.muli arg8 c1024_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_25 : BitVec 32 := 2#32
  let v59 : BitVec 32 := Scalar.muli v1 c2_i32_25
  let c1_i32_26 : BitVec 32 := 1#32
  let v60 : BitVec 32 := Scalar.addi v59 c1_i32_26
  let c16_i32_27 : BitVec 32 := 16#32
  let v61 : BitVec 32 := Scalar.muli v60 c16_i32_27
  ![v115.toNat, v61.toNat]
@[reducible] def k1_t4_loop : Scf.Loop 32 :=
  let c0_i32_68 : BitVec 32 := 0#32
  let c1024_i32_69 : BitVec 32 := 1024#32
  let v116 : BitVec 32 := Scalar.addi c0_i32_68 c1024_i32_69
  let c1_i32_70 : BitVec 32 := 1#32
  ⟨c0_i32_68, v116, c1_i32_70⟩
def k1_off8 (k1_t4 : Fin k1_t4_loop.trips) : Fin 2 → Nat :=
  let c0_i32_68 : BitVec 32 := 0#32
  let c1_i32_70 : BitVec 32 := 1#32
  let arg10 : BitVec 32 := Scf.iv c0_i32_68 c1_i32_70 k1_t4
  let v118 : Index := Scalar.indexCast arg10
  let c0_73 : Index := 0#32
  ![v118.toNat, 0]

def k1_chk3 (v2 : IVec S16 32) (v168 : IVec S16 32) : Prop :=
  (∀ a x, ((![v168, v2] : Fin 2 → IVec S16 32) a x).toNat < S49x16.size a)
theorem k1_idx3_inb : ∀ (v2 : IVec S16 32) (v168 : IVec S16 32) (k1_hw3 : k1_chk3 v2 v168), ∀ a x, ((![v168, v2] : Fin 2 → IVec S16 32) a x).toNat < S49x16.size a := fun v2 v168 k1_hw3 => k1_hw3

def k1_chk4 (v2 : IVec S16 32) (v171 : IVec S16 32) : Prop :=
  (∀ a x, ((![v171, v2] : Fin 2 → IVec S16 32) a x).toNat < S49x16.size a)
theorem k1_idx4_inb : ∀ (v2 : IVec S16 32) (v171 : IVec S16 32) (k1_hw4 : k1_chk4 v2 v171), ∀ a x, ((![v171, v2] : Fin 2 → IVec S16 32) a x).toNat < S49x16.size a := fun v2 v171 k1_hw4 => k1_hw4
def k1_off9 (k1_t4 : Fin k1_t4_loop.trips) : Fin 2 → Nat :=
  let c0_i32_68 : BitVec 32 := 0#32
  let c1_i32_70 : BitVec 32 := 1#32
  let arg10 : BitVec 32 := Scf.iv c0_i32_68 c1_i32_70 k1_t4
  let v179 : Index := Scalar.indexCast arg10
  let c0_75 : Index := 0#32
  ![v179.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x1024 : Shape := ⟨2, ![8192, 1024]⟩
abbrev S1x1024x1 : Shape := ⟨3, ![1, 1024, 1]⟩
abbrev S1x1024x16 : Shape := ⟨3, ![1, 1024, 16]⟩
abbrev S8192x1024x1 : Shape := ⟨3, ![8192, 1024, 1]⟩
abbrev S_ : Shape := ⟨0, ![]⟩
abbrev S1x1024x17 : Shape := ⟨3, ![1, 1024, 17]⟩
abbrev S8192x1024x16 : Shape := ⟨3, ![8192, 1024, 16]⟩

abbrev nBuf : Space → Nat
  | .hbm => 123
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1, .f32⟩
  | .hbm, ⟨2, _⟩ => ⟨S1x1024x16, .f32⟩
  | .hbm, ⟨3, _⟩ => ⟨S1x1024x1, .f32⟩
  | .hbm, ⟨4, _⟩ => ⟨S1x1024x16, .f32⟩
  | .hbm, ⟨5, _⟩ => ⟨S8192x1024x1, .f32⟩
  | .hbm, ⟨6, _⟩ => ⟨S_, .f32⟩
  | .hbm, ⟨7, _⟩ => ⟨S1x1024x16, .f32⟩
  | .hbm, ⟨8, _⟩ => ⟨S1x1024x16, .f32⟩
  | .hbm, ⟨9, _⟩ => ⟨S1x1024x16, .f32⟩
  | .hbm, ⟨10, _⟩ => ⟨S1x1024x16, .f32⟩
  | .hbm, ⟨11, _⟩ => ⟨S1x1024x16, .i1⟩
  | .hbm, ⟨12, _⟩ => ⟨S1x1024x16, .f32⟩
  | .hbm, ⟨13, _⟩ => ⟨S1x1024x16, .f32⟩
  | .hbm, ⟨14, _⟩ => ⟨S1x1024x16, .f32⟩
  | .hbm, ⟨15, _⟩ => ⟨S1x1024x16, .f32⟩
  | .hbm, ⟨16, _⟩ => ⟨S1x1024x16, .f32⟩
  | .hbm, ⟨17, _⟩ => ⟨S1x1024x16, .f32⟩
  | .hbm, ⟨18, _⟩ => ⟨S1x1024x16, .f32⟩
  | .hbm, ⟨19, _⟩ => ⟨S1x1024x16, .f32⟩
  | .hbm, ⟨20, _⟩ => ⟨S_, .f32⟩
  | .hbm, ⟨21, _⟩ => ⟨S_, .f32⟩
  | .hbm, ⟨22, _⟩ => ⟨S1x1024x16, .f32⟩
  | .hbm, ⟨23, _⟩ => ⟨S1x1024x16, .f32⟩
  | .hbm, ⟨24, _⟩ => ⟨S1x1024x16, .f32⟩
  | .hbm, ⟨25, _⟩ => ⟨S1x1024x17, .f32⟩
  | .hbm, ⟨26, _⟩ => ⟨S_, .f32⟩
  | .hbm, ⟨27, _⟩ => ⟨S1x1024x17, .f32⟩
  | .hbm, ⟨28, _⟩ => ⟨S1x1024x17, .f32⟩
  | .hbm, ⟨29, _⟩ => ⟨S1x1024x1, .f32⟩
  | .hbm, ⟨30, _⟩ => ⟨S1x1024x1, .f32⟩
  | .hbm, ⟨31, _⟩ => ⟨S1x1024x1, .f32⟩
  | .hbm, ⟨32, _⟩ => ⟨S_, .f32⟩
  | .hbm, ⟨33, _⟩ => ⟨S1x1024x1, .f32⟩
  | .hbm, ⟨34, _⟩ => ⟨S1x1024x1, .f32⟩
  | .hbm, ⟨35, _⟩ => ⟨S1x1024x17, .f32⟩
  | .hbm, ⟨36, _⟩ => ⟨S1x1024x17, .f32⟩
  | .hbm, ⟨37, _⟩ => ⟨S_, .f32⟩
  | .hbm, ⟨38, _⟩ => ⟨S1x1024x17, .f32⟩
  | .hbm, ⟨39, _⟩ => ⟨S1x1024x17, .f32⟩
  | .hbm, ⟨40, _⟩ => ⟨S_, .f32⟩
  | .hbm, ⟨41, _⟩ => ⟨S1x1024x16, .f32⟩
  | .hbm, ⟨42, _⟩ => ⟨S1x1024x16, .f32⟩
  | .hbm, ⟨43, _⟩ => ⟨S1x1024x16, .f32⟩
  | .hbm, ⟨44, _⟩ => ⟨S1x1024x16, .f32⟩
  | .hbm, ⟨45, _⟩ => ⟨S1x1024x16, .i1⟩
  | .hbm, ⟨46, _⟩ => ⟨S1x1024x16, .f32⟩
  | .hbm, ⟨47, _⟩ => ⟨S1x1024x16, .f32⟩
  | .hbm, ⟨48, _⟩ => ⟨S1x1024x16, .f32⟩
  | .hbm, ⟨49, _⟩ => ⟨S1x1024x16, .f32⟩
  | .hbm, ⟨50, _⟩ => ⟨S1x1024x16, .f32⟩
  | .hbm, ⟨51, _⟩ => ⟨S1x1024x16, .f32⟩
  | .hbm, ⟨52, _⟩ => ⟨S1x1024x16, .f32⟩
  | .hbm, ⟨53, _⟩ => ⟨S1x1024x16, .f32⟩
  | .hbm, ⟨54, _⟩ => ⟨S_, .f32⟩
  | .hbm, ⟨55, _⟩ => ⟨S_, .f32⟩
  | .hbm, ⟨56, _⟩ => ⟨S1x1024x16, .f32⟩
  | .hbm, ⟨57, _⟩ => ⟨S1x1024x16, .f32⟩
  | .hbm, ⟨58, _⟩ => ⟨S1x1024x16, .f32⟩
  | .hbm, ⟨59, _⟩ => ⟨S1x1024x17, .f32⟩
  | .hbm, ⟨60, _⟩ => ⟨S_, .f32⟩
  | .hbm, ⟨61, _⟩ => ⟨S1x1024x17, .f32⟩
  | .hbm, ⟨62, _⟩ => ⟨S1x1024x17, .f32⟩
  | .hbm, ⟨63, _⟩ => ⟨S1x1024x1, .f32⟩
  | .hbm, ⟨64, _⟩ => ⟨S1x1024x1, .f32⟩
  | .hbm, ⟨65, _⟩ => ⟨S1x1024x1, .f32⟩
  | .hbm, ⟨66, _⟩ => ⟨S_, .f32⟩
  | .hbm, ⟨67, _⟩ => ⟨S1x1024x1, .f32⟩
  | .hbm, ⟨68, _⟩ => ⟨S1x1024x1, .f32⟩
  | .hbm, ⟨69, _⟩ => ⟨S1x1024x17, .f32⟩
  | .hbm, ⟨70, _⟩ => ⟨S1x1024x17, .f32⟩
  | .hbm, ⟨71, _⟩ => ⟨S_, .f32⟩
  | .hbm, ⟨72, _⟩ => ⟨S1x1024x17, .f32⟩
  | .hbm, ⟨73, _⟩ => ⟨S1x1024x17, .f32⟩
  | .hbm, ⟨74, _⟩ => ⟨S1x1024x16, .f32⟩
  | .hbm, ⟨75, _⟩ => ⟨S1x1024x16, .f32⟩
  | .hbm, ⟨76, _⟩ => ⟨S1x1024x16, .f32⟩
  | .hbm, ⟨77, _⟩ => ⟨S1x1024x16, .f32⟩
  | .hbm, ⟨78, _⟩ => ⟨S1x1024x16, .f32⟩
  | .hbm, ⟨79, _⟩ => ⟨S1x1024x16, .f32⟩
  | .hbm, ⟨80, _⟩ => ⟨S1x1024x16, .f32⟩
  | .hbm, ⟨81, _⟩ => ⟨S1x1024x1, .f32⟩
  | .hbm, ⟨82, _⟩ => ⟨S8192x1024x1, .f32⟩
  | .hbm, ⟨83, _⟩ => ⟨S8192x1024x1, .i1⟩
  | .hbm, ⟨84, _⟩ => ⟨S_, .f32⟩
  | .hbm, ⟨85, _⟩ => ⟨S8192x1024x1, .f32⟩
  | .hbm, ⟨86, _⟩ => ⟨S8192x1024x1, .f32⟩
  | .hbm, ⟨87, _⟩ => ⟨S8192x1024x1, .f32⟩
  | .hbm, ⟨88, _⟩ => ⟨S8192x1024x1, .f32⟩
  | .hbm, ⟨89, _⟩ => ⟨S8192x1024, .f32⟩
  | .hbm, ⟨90, _⟩ => ⟨S1x1024x1, .f32⟩
  | .hbm, ⟨91, _⟩ => ⟨S8192x1024x1, .f32⟩
  | .hbm, ⟨92, _⟩ => ⟨S8192x1024x1, .i1⟩
  | .hbm, ⟨93, _⟩ => ⟨S_, .f32⟩
  | .hbm, ⟨94, _⟩ => ⟨S8192x1024x1, .f32⟩
  | .hbm, ⟨95, _⟩ => ⟨S8192x1024x1, .f32⟩
  | .hbm, ⟨96, _⟩ => ⟨S8192x1024x1, .f32⟩
  | .hbm, ⟨97, _⟩ => ⟨S8192x1024x1, .f32⟩
  | .hbm, ⟨98, _⟩ => ⟨S8192x1024, .f32⟩
  | .hbm, ⟨99, _⟩ => ⟨S1x1024x16, .f32⟩
  | .hbm, ⟨100, _⟩ => ⟨S8192x1024x16, .f32⟩
  | .hbm, ⟨101, _⟩ => ⟨S8192x1024x16, .f32⟩
  | .hbm, ⟨102, _⟩ => ⟨S8192x1024x16, .i1⟩
  | .hbm, ⟨103, _⟩ => ⟨S1x1024x16, .f32⟩
  | .hbm, ⟨104, _⟩ => ⟨S8192x1024x16, .f32⟩
  | .hbm, ⟨105, _⟩ => ⟨S8192x1024x16, .f32⟩
  | .hbm, ⟨106, _⟩ => ⟨S8192x1024x16, .i1⟩
  | .hbm, ⟨107, _⟩ => ⟨S8192x1024x16, .i1⟩
  | .hbm, ⟨108, _⟩ => ⟨S1x1024x16, .f32⟩
  | .hbm, ⟨109, _⟩ => ⟨S8192x1024x16, .f32⟩
  | .hbm, ⟨110, _⟩ => ⟨S8192x1024x16, .f32⟩
  | .hbm, ⟨111, _⟩ => ⟨S8192x1024x16, .f32⟩
  | .hbm, ⟨112, _⟩ => ⟨S8192x1024x16, .f32⟩
  | .hbm, ⟨113, _⟩ => ⟨S8192x1024x16, .f32⟩
  | .hbm, ⟨114, _⟩ => ⟨S1x1024x16, .f32⟩
  | .hbm, ⟨115, _⟩ => ⟨S8192x1024x16, .f32⟩
  | .hbm, ⟨116, _⟩ => ⟨S8192x1024x16, .f32⟩
  | .hbm, ⟨117, _⟩ => ⟨S8192x1024x16, .f32⟩
  | .hbm, ⟨118, _⟩ => ⟨S8192x1024x16, .f32⟩
  | .hbm, ⟨119, _⟩ => ⟨S_, .f32⟩
  | .hbm, ⟨120, _⟩ => ⟨S8192x1024, .f32⟩
  | .hbm, ⟨121, _⟩ => ⟨S8192x1024, .f32⟩
  | .hbm, ⟨122, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v1 : Ref sig .tc := ⟨.hbm, 19, rfl⟩
abbrev main_call1_call0_cst : Ref sig .tc := ⟨.hbm, 20, rfl⟩
abbrev main_call1_call0_v0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_1 : Ref sig .tc := ⟨.hbm, 37, rfl⟩
abbrev main_v15 : Ref sig .tc := ⟨.hbm, 38, rfl⟩
abbrev main_v16 : Ref sig .tc := ⟨.hbm, 39, rfl⟩
abbrev main_call2_cst : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_v17 : Ref sig .tc := ⟨.hbm, 53, rfl⟩
abbrev main_call3_call0_cst : Ref sig .tc := ⟨.hbm, 54, rfl⟩
abbrev main_call3_call0_v0 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_cst_2 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_3 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_cst_4 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_5 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_6 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_7 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩

abbrev nD : Nat := 1
abbrev τ : Topo := Topo.v7x

variable {F : FTy → Type} [FloatOps F]
-- ==== Proof.Seg.lean ====
/-
  The piecewise-linear value a tile computes for one element, as a scalar function: `seg` counts the interior
  breakpoints at or below the element, `kval` reads that segment's slope and offset out of a 49-entry column of the
  table and keeps the element itself outside the breakpoints' range.
-/
module

public import Idealize.ShloMosaic.Lib.Pointwise.Index
public import Idealize.ShloMosaic.PureOps.Vector

@[expose] public section

noncomputable section

namespace Cert.Proof.Seg

open Idealize.ShloMosaic

variable {F : FTy → Type} [FloatOps F]

/-- One comparison added to a running count. -/
def bump (p : Fin 49 → F .f32) (x : F .f32) (a : BitVec 32) (i : Fin 49) : BitVec 32 :=
  IntOp.addi a ((FloatOps.cmpf .oge x (p i)).setWidth 32)

/-- The count of the interior breakpoints (rows 1 to 15 of the column `p`) at or below `x`, as the word the tile adds up. -/
def segw (p : Fin 49 → F .f32) (x : F .f32) : BitVec 32 :=
  ([1, 2, 3, 4, 5, 6, 7, 8, 9, 10, 11, 12, 13, 14, 15] : List (Fin 49)).foldl (bump p x) 0#32

theorem bump_toNat (p : Fin 49 → F .f32) (x : F .f32) (a : BitVec 32) (i : Fin 49) (n : ℕ) (h : a.toNat ≤ n) (hn : n < 100) :
    (bump p x a i).toNat = a.toNat + (FloatOps.cmpf .oge x (p i)).toNat := by
  unfold bump IntOp.addi
  have hb := (FloatOps.cmpf .oge x (p i)).isLt
  rw [BitVec.toNat_add, BitVec.toNat_setWidth]
  omega

/-- Adding up comparisons counts them: the running word is the start plus the number of breakpoints passed. -/
theorem foldl_bump (p : Fin 49 → F .f32) (x : F .f32) (l : List (Fin 49)) (a : BitVec 32) (h : a.toNat + l.length < 100) :
    (l.foldl (bump p x) a).toNat = a.toNat + (l.map fun i => (FloatOps.cmpf .oge x (p i)).toNat).sum := by
  induction l generalizing a with
  | nil => simp
  | cons i l ih =>
    simp only [List.length_cons] at h
    have hb := (FloatOps.cmpf .oge x (p i)).isLt
    have e := bump_toNat p x a i a.toNat le_rfl (by omega)
    rw [List.foldl_cons, ih _ (by rw [e]; omega), e, List.map_cons, List.sum_cons]
    omega

theorem sum_le (l : List (Fin 49)) (f : Fin 49 → ℕ) (h : ∀ i, f i ≤ 1) : (l.map f).sum ≤ l.length := by
  induction l with
  | nil => simp
  | cons i l ih => simp only [List.map_cons, List.sum_cons, List.length_cons]; have := h i; omega

theorem segw_toNat (p : Fin 49 → F .f32) (x : F .f32) :
    (segw p x).toNat
      = (([1, 2, 3, 4, 5, 6, 7, 8, 9, 10, 11, 12, 13, 14, 15] : List (Fin 49)).map fun i => (FloatOps.cmpf .oge x (p i)).toNat).sum := by
  unfold segw
  rw [foldl_bump _ _ _ _ (by simp)]
  simp

/-- The count is at most fifteen. -/
theorem segw_lt (p : Fin 49 → F .f32) (x : F .f32) : (segw p x).toNat < 16 := by
  rw [segw_toNat]
  refine Nat.lt_succ_of_le ((sum_le _ _ fun i => ?_).trans (le_of_eq rfl))
  have := (FloatOps.cmpf .oge x (p i)).isLt
  omega

/-- The segment's number. -/
def seg (p : Fin 49 → F .f32) (x : F .f32) : Fin 16 := ⟨(segw p x).toNat, segw_lt p x⟩

/-- The row of the table holding segment `k`'s slope. -/
def rowS (k : Fin 16) : Fin 49 := ⟨k.val + 17, by omega⟩
/-- The row of the table holding segment `k`'s offset. -/
def rowC (k : Fin 16) : Fin 49 := ⟨k.val + 33, by omega⟩

/-- What a tile leaves for the element `x` whose feature's table column is `p`. -/
def kval (p : Fin 49 → F .f32) (x : F .f32) : F .f32 :=
  Scalar.select (IntOp.andi (FloatOps.cmpf .oge x (p 0)) (FloatOps.cmpf .ole x (p 16)))
    (FloatOps.addf (FloatOps.mulf x (p (rowS (seg p x)))) (p (rowC (seg p x)))) x

theorem addi17 (p : Fin 49 → F .f32) (x : F .f32) : (IntOp.addi (segw p x) 17#32).toNat = (rowS (seg p x)).val := by
  unfold IntOp.addi rowS seg
  have := segw_lt p x
  rw [BitVec.toNat_add]; simp; omega

theorem addi33 (p : Fin 49 → F .f32) (x : F .f32) : (IntOp.addi (segw p x) 33#32).toNat = (rowC (seg p x)).val := by
  unfold IntOp.addi rowC seg
  have := segw_lt p x
  rw [BitVec.toNat_add]; simp; omega

end Cert.Proof.Seg
-- ==== Proof.Table.lean ====
/-
  One column of the table as scalar functions: the softplus, the running sums, the breakpoints they place, and the slopes
  and offsets of the segments between them, each in the order the table's call computes it.
-/
module

public import proofs.«01_k».proof.Proof.Seg

@[expose] public section

noncomputable section

namespace Cert.Proof.Seg

open Idealize.ShloMosaic

variable {F : FTy → Type} [FloatOps F]

/-- The constant 0 of the program. -/
abbrev zero32 : F .f32 := Scalar.ofBits .f32 0x00000000#32
/-- The constant 1 of the program. -/
abbrev one32 : F .f32 := Scalar.ofBits .f32 0x3F800000#32

/-- The softplus as the table's call computes it: `max v 0 + log (1 + exp (0 - |v|))`. -/
def sp (v : F .f32) : F .f32 :=
  FloatOps.addf (FloatOps.maximumf v zero32)
    (FloatOps.log (FloatOps.addf one32 (FloatOps.exp (FloatOps.subf zero32 (FloatOps.absf v)))))

/-- The sum of the first `n + 1` softplus values, added from the left. -/
def cum (dx : ℕ → F .f32) : ℕ → F .f32
  | 0 => sp (dx 0)
  | n + 1 => FloatOps.addf (cum dx n) (sp (dx (n + 1)))

/-- The `n`-th breakpoint before it is rescaled: the start, then the start plus the running sums. -/
def raw (x0 : F .f32) (dx : ℕ → F .f32) : ℕ → F .f32
  | 0 => FloatOps.subf x0 zero32
  | n + 1 => FloatOps.subf (FloatOps.addf x0 (cum dx n)) zero32

/-- One over the distance from the first breakpoint to the last. -/
def chg (x0 : F .f32) (dx : ℕ → F .f32) : F .f32 :=
  FloatOps.divf one32 (FloatOps.subf (raw x0 dx 16) (raw x0 dx 0))

/-- The `n`-th breakpoint. -/
def piece (x0 : F .f32) (dx : ℕ → F .f32) (n : ℕ) : F .f32 :=
  FloatOps.addf (FloatOps.mulf (raw x0 dx n) (chg x0 dx)) zero32

/-- The slope of segment `n`. -/
def slope (x0 : F .f32) (dx : ℕ → F .f32) (y0 : F .f32) (dy : ℕ → F .f32) (n : ℕ) : F .f32 :=
  FloatOps.divf (FloatOps.subf (piece y0 dy (n + 1)) (piece y0 dy n)) (FloatOps.subf (piece x0 dx (n + 1)) (piece x0 dx n))

/-- The offset of segment `n`: what its line takes at 0. -/
def offs (x0 : F .f32) (dx : ℕ → F .f32) (y0 : F .f32) (dy : ℕ → F .f32) (n : ℕ) : F .f32 :=
  FloatOps.subf (piece y0 dy n) (FloatOps.mulf (piece x0 dx n) (slope x0 dx y0 dy n))

/-- A column of the table: 17 breakpoints, 16 slopes, 16 offsets. -/
def colVal (x0 : F .f32) (dx : ℕ → F .f32) (y0 : F .f32) (dy : ℕ → F .f32) (r : Fin 49) : F .f32 :=
  if r.val < 17 then piece x0 dx r.val
  else if r.val < 33 then slope x0 dx y0 dy (r.val - 17) else offs x0 dx y0 dy (r.val - 33)

end Cert.Proof.Seg
-- ==== Proof.KernelIdeal.Base.lean ====
/-
  The program as its launch sees it: the SparseCore configuration, the resource algebra (the handshakes' rounds, the
  TensorCore pipeline's rounds and the counters of the tiles' transfers), and the names of the buffers.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Transfers
public import Idealize.ShloMosaic.Lib.Pipeline.Value
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Seg

@[expose] public section

noncomputable section

namespace Cert.Proof.KernelIdeal

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The one SparseCore call has sixteen tiles a core. -/
theorem nSub_zero : (K (F := F)).nSub 0 = 16 := rfl

/-- The handshake semaphores are distinct and no task's, and no buffer of a SparseCore is shared between tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The rounds of the handshakes, of the pipeline's windows, and the counters of the tiles' transfers. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The second component of the user algebra. -/
def EB : Emb (UP × Counters) (MT nD τ sig (HIx 1) (Elt F) ℕ UU ℕ) :=
  (Emb.inr : Emb (UP × Counters) UU).trans (uEmb (nD := nD) (sig := sig) (Ix := HIx 1) (Val := Elt F) (Name := ℕ) (U := UU) (Lvl := ℕ)).toEmb
def EP : Emb UP (MT nD τ sig (HIx 1) (Elt F) ℕ UU ℕ) := (Emb.inl : Emb UP (UP × Counters)).trans EB

instance EH_landsIn : (EH : Emb UH 𝕄).LandsIn (upEmb : UEmb _ 𝕄) := by unfold EH; infer_instance
instance EB_landsIn : (EB : Emb (UP × Counters) 𝕄).LandsIn (upEmb : UEmb _ 𝕄) := by unfold EB; infer_instance
instance EP_landsIn : (EP : Emb UP 𝕄).LandsIn (upEmb : UEmb _ 𝕄) := by unfold EP; infer_instance

/-- The counters' copy, where the tiles' transfers keep their tokens. -/
abbrev EC : UEmb Counters (MT nD τ sig (HIx 1) (Elt F) ℕ UU ℕ) := countersEmb (U := UU)

/-! ## The buffers a tile touches -/

abbrev xW : Memref sig .scVector .hbm S8192x1024 .f32 := Memref.whole main_arg0_scv
abbrev tW : Memref sig .scVector .hbm S49x1024 .f32 := Memref.whole main_v8_scv
abbrev oW : Memref sig .scVector .hbm S8192x1024 .f32 := Memref.whole main_v9_scv
abbrev s5 : Memref sig .scVector .vmem S49x16 .f32 := Memref.whole cc1_scratch0
abbrev s6 : Memref sig .scVector .vmem S1024x16 .f32 := Memref.whole cc1_scratch1
abbrev s7 : Memref sig .scVector .vmem S1024x16 .f32 := Memref.whole cc1_scratch2

abbrev cV (L : grid1.Coords) : Fin τ.nSC := (L 0).castLE hcore1
abbrev jV (L : grid1.Coords) : Fin τ.nSub := (L 1).castLE hsub1
/-- The tile at grid coordinates `L` of device `d`. -/
abbrev thr (d : Dev nD) (L : grid1.Coords) : Thread nD τ := V d (cV L) (jV L)

/-- `x`, the table and the result, as locations of device `d`. -/
abbrev xLoc (d : Dev nD) : Loc nD τ sig := (SparseCore.T d).loc main_arg0
abbrev tLoc (d : Dev nD) : Loc nD τ sig := (SparseCore.T d).loc main_v8
abbrev oLoc (d : Dev nD) : Loc nD τ sig := (SparseCore.T d).loc main_v9

end Cert.Proof.KernelIdeal
-- ==== Proof.KernelIdeal.Step.lean ====
/-
  One row of a tile's block: the sixteen lanes' values looked up and interpolated (`row_step`). Both column blocks'
  inner loops run this program.
-/
module

public import proofs.«01_k».proof.Proof.KernelIdeal.Base

@[expose] public section

set_option maxRecDepth 16384

noncomputable section

namespace Cert.Proof.KernelIdeal

open Cert.KernelIdeal Cert.KernelIdeal.Gen Cert.Proof.Seg

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

section Pure

variable [FloatOps F]

/-- Lane `l`'s column of the table block. -/
def colOf (A5 : S49x16.Idx → F .f32) (l : Fin 16) : Fin 49 → F .f32 := fun r => A5 (ix2 r l)
/-- What the block of `x` held in `A6` becomes. -/
def rowRes (A5 : S49x16.Idx → F .f32) (A6 : S1024x16.Idx → F .f32) : S1024x16.Idx → F .f32 := fun j => kval (colOf A5 (j 1)) (A6 j)

/-- Row `r` of the table block, as the tile loads it. -/
abbrev ld (A5 : S49x16.Idx → F .f32) (off : Fin 2 → ℕ) (h : ∀ a, off a + S1x16.size a ≤ S49x16.size a) : Vec F S1x16 .f32 :=
  (s5 : Memref sig .scVector .vmem S49x16 .f32).view.readAt (Elt F) (Rect.unit (s := S49x16) off S1x16.size h).toLoadRect A5

theorem ld_cast (A5 : S49x16.Idx → F .f32) (r : Fin 49) (h : ∀ a, (![r.val, 0] : Fin 2 → ℕ) a + S1x16.size a ≤ S49x16.size a) (l : S16.Idx) :
    shapeCast S16 (ld A5 ![r.val, 0] h) shapeCasts_S1x16_S16 l = colOf A5 (l 0) r := by
  refine (shapeCast_dropUnit_apply ![16] _ _ l).trans ?_
  unfold ld colOf
  rw [View.readAt_apply]
  simp only [Memref.view_whole, View.read_whole]
  congr 1
  funext a
  apply Fin.ext
  rw [LoadRect.idx_apply]
  match a with
  | 0 => show r.val + 1 * 0 = r.val; omega
  | 1 => show 0 + 1 * (l 0).val = (l 0).val; omega

/-- Row `k` of the block of `x`, as the tile loads it. -/
theorem ld6_cast (A6 : S1024x16.Idx → F .f32) (k : Fin 1024) (off : Fin 2 → ℕ) (h) (e : off = ![k.val, 0]) (l : S16.Idx) :
    shapeCast S16 ((s6 : Memref sig .scVector .vmem S1024x16 .f32).view.readAt (Elt F) (Rect.unit (s := S1024x16) off S1x16.size h).toLoadRect A6)
      shapeCasts_S1x16_S16 l = A6 (ix2 k (l 0)) := by
  subst e
  refine (shapeCast_dropUnit_apply ![16] _ _ l).trans ?_
  rw [View.readAt_apply]
  simp only [Memref.view_whole, View.read_whole]
  congr 1
  funext a
  apply Fin.ext
  rw [LoadRect.idx_apply]
  match a with
  | 0 => show k.val + 1 * 0 = k.val; omega
  | 1 => show 0 + 1 * (l 0).val = (l 0).val; omega

/-- The lanes' own numbers. -/
abbrev lanes : IVec S16 32 := iota .scVector S16 32 [0] iota_S16_d0_w32_scVector

theorem lanes_apply (l : S16.Idx) : (lanes l).toNat = (l 0).val := by
  have e : lanes l = BitVec.ofNat 32 (l 0).val := iota_single_apply _ S16 32 0 _ l
  have : (l 0).val < 16 := (l 0).isLt
  rw [e, BitVec.toNat_ofNat]
  exact Nat.mod_eq_of_lt (by omega)

theorem pay9_apply (q : Fin 49 → F .f32) (x : F .f32) (v11 v14 v17 v20 v23 v26 v29 v32 v35 v38 v41 v44 v47 v50 v53 : FVec F S16 .f32) (v119 : Vec F S1x16 .f32) (l : S16.Idx)
    (h11 : v11 l = q 1)
    (h14 : v14 l = q 2)
    (h17 : v17 l = q 3)
    (h20 : v20 l = q 4)
    (h23 : v23 l = q 5)
    (h26 : v26 l = q 6)
    (h29 : v29 l = q 7)
    (h32 : v32 l = q 8)
    (h35 : v35 l = q 9)
    (h38 : v38 l = q 10)
    (h41 : v41 l = q 11)
    (h44 : v44 l = q 12)
    (h47 : v47 l = q 13)
    (h50 : v50 l = q 14)
    (h53 : v53 l = q 15)
    (hx : shapeCast S16 v119 shapeCasts_S1x16_S16 l = x) :
    k1_pay9 v11 v14 v17 v20 v23 v26 v29 v32 v35 v38 v41 v44 v47 v50 v53 v119 l = segw q x := by
  simp only [segw, List.foldl, bump, ← h11, ← h14, ← h17, ← h20, ← h23, ← h26, ← h29, ← h32, ← h35, ← h38, ← h41, ← h44, ← h47, ← h50, ← h53, ← hx]
  rfl

/-- The interpolated row, lane by lane. -/
theorem pay32_apply (q : Fin 49 → F .f32) (x : F .f32) (v8 : FVec F S16 .f32) (v55 : Vec F S1x16 .f32) (v120 : FVec F S16 .f32)
    (v169 v172 : Vec F S16 .f32) (l : Fin 16) (h0 : v8 (ix1 l) = q 0) (h16 : shapeCast S16 v55 shapeCasts_S1x16_S16 (ix1 l) = q 16)
    (hx : v120 (ix1 l) = x) (hs : v169 (ix1 l) = q (rowS (seg q x))) (hc : v172 (ix1 l) = q (rowC (seg q x))) (z : Fin 1) :
    k1_pay32 v8 v55 v120 v169 v172 (ix2 z l) = kval q x := by
  unfold k1_pay32
  refine (shapeCast_addUnit_apply ![16] _ _ (ix2 z l)).trans ?_
  have e : (fun a : Fin 1 => (ix2 z l : S1x16.Idx) a.succ) = (ix1 l : S16.Idx) := by
    funext a; obtain rfl : a = 0 := Subsingleton.elim _ _; rfl
  refine (congrArg _ e).trans ?_
  unfold kval
  rw [← h0, ← h16, ← hs, ← hc, ← hx]
  rfl

/-- The segments' word of lane `l` in row `k`. -/
theorem segs_apply (A5 : S49x16.Idx → F .f32) (A6 : S1024x16.Idx → F .f32) (k : Fin 1024) (off : Fin 2 → ℕ) (h) (e : off = ![k.val, 0]) (l : S16.Idx) :
    k1_pay9 (k1_pay17 (ld A5 ![1, 0] inb_S49x16_S1x16_1_0)) (k1_pay18 (ld A5 ![2, 0] inb_S49x16_S1x16_2_0)) (k1_pay19 (ld A5 ![3, 0] inb_S49x16_S1x16_3_0)) (k1_pay20 (ld A5 ![4, 0] inb_S49x16_S1x16_4_0)) (k1_pay21 (ld A5 ![5, 0] inb_S49x16_S1x16_5_0)) (k1_pay22 (ld A5 ![6, 0] inb_S49x16_S1x16_6_0)) (k1_pay23 (ld A5 ![7, 0] inb_S49x16_S1x16_7_0)) (k1_pay24 (ld A5 ![8, 0] inb_S49x16_S1x16_8_0)) (k1_pay25 (ld A5 ![9, 0] inb_S49x16_S1x16_9_0)) (k1_pay26 (ld A5 ![10, 0] inb_S49x16_S1x16_10_0)) (k1_pay27 (ld A5 ![11, 0] inb_S49x16_S1x16_11_0)) (k1_pay28 (ld A5 ![12, 0] inb_S49x16_S1x16_12_0)) (k1_pay29 (ld A5 ![13, 0] inb_S49x16_S1x16_13_0)) (k1_pay30 (ld A5 ![14, 0] inb_S49x16_S1x16_14_0)) (k1_pay31 (ld A5 ![15, 0] inb_S49x16_S1x16_15_0))
      ((s6 : Memref sig .scVector .vmem S1024x16 .f32).view.readAt (Elt F) (Rect.unit (s := S1024x16) off S1x16.size h).toLoadRect A6) l
      = segw (colOf A5 (l 0)) (A6 (ix2 k (l 0))) :=
  pay9_apply _ _ _ _ _ _ _ _ _ _ _ _ _ _ _ _ _ _ _ (ld_cast A5 1 _ l) (ld_cast A5 2 _ l) (ld_cast A5 3 _ l) (ld_cast A5 4 _ l) (ld_cast A5 5 _ l) (ld_cast A5 6 _ l) (ld_cast A5 7 _ l) (ld_cast A5 8 _ l) (ld_cast A5 9 _ l) (ld_cast A5 10 _ l) (ld_cast A5 11 _ l) (ld_cast A5 12 _ l) (ld_cast A5 13 _ l) (ld_cast A5 14 _ l) (ld_cast A5 15 _ l) (ld6_cast A6 k off h e l)

/-- A table row named by a word and a lane's own number are inside the block. -/
theorem chk_of (w : IVec S16 32) (r : S16.Idx → Fin 49) (h : ∀ l, (w l).toNat = (r l).val) :
    ∀ a x, ((![w, lanes] : Fin 2 → IVec S16 32) a x).toNat < S49x16.size a := by
  intro a x
  match a with
  | 0 => show (w x).toNat < 49; rw [h]; exact (r x).isLt
  | 1 =>
    show (lanes x).toNat < 16
    rw [lanes_apply]
    exact (x 0).isLt

/-- The indexed load reads lane `l`'s column at the row its word names. -/
theorem gather_apply (A5 g : S49x16.Idx → F .f32) (hg : g = A5) (w : IVec S16 32) (r : S16.Idx → Fin 49) (h : ∀ l, (w l).toNat = (r l).val) (h') (l : S16.Idx) :
    loadIdx (e := .f32) (F := F) g ![w, lanes] h' l = colOf A5 (l 0) (r l) := by
  subst hg
  unfold loadIdx colOf
  congr 1
  funext a
  apply Fin.ext
  match a with
  | 0 => exact h l
  | 1 => exact lanes_apply l

end Pure

section Steps

variable [FloatOps F] (d : Dev nD) (L : grid1.Coords)

abbrev pts5 (A : S49x16.Idx → F .f32) : sProp 𝕄 := (s5 : Memref sig .scVector .vmem S49x16 .f32).view.loc (thr d L) ↦{fullShare} A
abbrev pts6 (A : S1024x16.Idx → F .f32) : sProp 𝕄 := (s6 : Memref sig .scVector .vmem S1024x16 .f32).view.loc (thr d L) ↦{fullShare} A
abbrev pts7 (A : S1024x16.Idx → F .f32) : sProp 𝕄 := (s7 : Memref sig .scVector .vmem S1024x16 .f32).view.loc (thr d L) ↦{fullShare} A

/-- Before row `k`: the table block and the block of `x`, and the result block with every row before `k` computed. -/
def rowInv (A5 : S49x16.Idx → F .f32) (A6 : S1024x16.Idx → F .f32) (k : ℕ) : sProp 𝕄 :=
  iprop(pts5 d L A5 ∗ pts6 d L A6 ∗ ∃ f : S1024x16.Idx → F .f32, ⌜∀ j, (j 0).val < k → f j = rowRes A5 A6 j⌝ ∗ pts7 d L f)

/-- Storing row `k` extends the computed rows by one. -/
theorem store_row (A5 : S49x16.Idx → F .f32) (A6 : S1024x16.Idx → F .f32) (k : Fin 1024) (off : Fin 2 → ℕ) (h) (e : off = ![k.val, 0])
    (f : S1024x16.Idx → F .f32) (hf : ∀ j, (j 0).val < k.val → f j = rowRes A5 A6 j) (w : S1x16.Idx → F .f32)
    (hw : ∀ l : Fin 16, w (ix2 0 l) = rowRes A5 A6 (ix2 k l)) (j : S1024x16.Idx) (hj : (j 0).val < k.val + 1) :
    ((s7 : Memref sig .scVector .vmem S1024x16 .f32).access (Rect.unit (s := S1024x16) off S1x16.size h)).write (Elt F) f w Finset.univ j = rowRes A5 A6 j := by
  subst e
  by_cases hk : (j 0).val = k.val
  · have ej : ((s7 : Memref sig .scVector .vmem S1024x16 .f32).access (Rect.unit (s := S1024x16) ![k.val, 0] S1x16.size h)).emb (ix2 (0 : Fin 1) (j 1 : Fin 16)) = j := by
      funext a
      apply Fin.ext
      match a with
      | 0 => show k.val + 1 * 0 = (j 0).val; omega
      | 1 => show 0 + 1 * (j 1).val = (j 1).val; omega
    have hw' := View.write_emb_of_mem (Val := Elt F) (v := (s7 : Memref sig .scVector .vmem S1024x16 .f32).access (Rect.unit (s := S1024x16) ![k.val, 0] S1x16.size h))
      f w (M := Finset.univ) (x := (ix2 (0 : Fin 1) (j 1 : Fin 16))) (Finset.mem_univ _)
    rw [ej] at hw'
    refine hw'.trans ?_
    have ej2 : (ix2 k (j 1) : S1024x16.Idx) = j := by
      funext a
      apply Fin.ext
      match a with
      | 0 => exact hk.symm
      | 1 => rfl
    exact (hw (j 1)).trans (by rw [ej2])
  · refine (View.write_of_not_mem (Val := Elt F) (v := (s7 : Memref sig .scVector .vmem S1024x16 .f32).access (Rect.unit (s := S1024x16) ![k.val, 0] S1x16.size h))
      f w Finset.univ fun hm => ?_).trans (hf j (by omega))
    obtain ⟨x, -, ex⟩ := Finset.mem_map.mp hm
    have e0 : k.val + 1 * (x 0).val = (j 0).val := congrArg (fun y : S1024x16.Idx => (y 0).val) ex
    have : (x 0).val < 1 := (x 0).isLt
    omega

/-- One row's statements in order: the row of `x` loaded, the two checked look-ups, the row stored. -/
def rowProg (v8 v11 v14 v17 v20 v23 v26 v29 v32 v35 v38 v41 v44 v47 v50 v53 : FVec F S16 .f32) (v55 : Vec F S1x16 .f32) (k : Fin k1_t2_loop.trips) :
    Prog (TpuEff nD τ sig (Elt F) Λ₀ (.scVector (cV L) (jV L))) (BitVec 32) :=
  .op (.load s6 (Rect.unit (s := S1024x16) (k1_off3 k) S1x16.size (k1_off3_inb k)).toLoadRect (View.loadsAt_vmem h_S1x16)) fun v119 =>
  .op (.assume (k1_chk1 lanes (k1_pay10 v11 v14 v17 v20 v23 v26 v29 v32 v35 v38 v41 v44 v47 v50 v53 v119)) (k1_chk1.dec lanes (k1_pay10 v11 v14 v17 v20 v23 v26 v29 v32 v35 v38 v41 v44 v47 v50 v53 v119))) fun h1 =>
  .op (.load s5 (.whole S49x16) (View.loadsAt_whole (View.loads_vmem h_S49x16))) fun f =>
  .op (.assume (k1_chk2 lanes (k1_pay11 v11 v14 v17 v20 v23 v26 v29 v32 v35 v38 v41 v44 v47 v50 v53 v119)) (k1_chk2.dec lanes (k1_pay11 v11 v14 v17 v20 v23 v26 v29 v32 v35 v38 v41 v44 v47 v50 v53 v119))) fun h2 =>
  .op (.load s5 (.whole S49x16) (View.loadsAt_whole (View.loads_vmem h_S49x16))) fun f' =>
  .op (.load s7 (Rect.unit (s := S1024x16) (k1_off4 k) S1x16.size (k1_off4_inb k)).toLoadRect (View.loadsAt_vmem h_S1x16)) fun _ =>
  .op (.store s7 (Rect.unit (s := S1024x16) (k1_off4 k) S1x16.size (k1_off4_inb k))
    (k1_pay32 v8 v55 (k1_pay8 v119) (loadIdx (F := F) (e := .f32) f ![k1_pay10 v11 v14 v17 v20 v23 v26 v29 v32 v35 v38 v41 v44 v47 v50 v53 v119, lanes] h1.down)
      (loadIdx (F := F) (e := .f32) f' ![k1_pay11 v11 v14 v17 v20 v23 v26 v29 v32 v35 v38 v41 v44 v47 v50 v53 v119, lanes] h2.down)) Finset.univ (View.stores_vmem_bits_univ h_S1x16 rfl) (.inl rfl)) fun _ =>
  .ret 0#32

set_option maxHeartbeats 4000000 in
/-- One row: the invariant at row `k` becomes the one at row `k + 1`. -/
theorem row_step (A5 : S49x16.Idx → F .f32) (A6 : S1024x16.Idx → F .f32) (k : Fin k1_t2_loop.trips) :
    rowInv d L A5 A6 k.val ⊢ wp frame (wpE (defs₀ (F := F)) 𝒱₀ (thr d L) none) Set.univ
      (rowProg L (k1_pay16 (ld A5 ![0, 0] inb_S49x16_S1x16_0_0)) (k1_pay17 (ld A5 ![1, 0] inb_S49x16_S1x16_1_0)) (k1_pay18 (ld A5 ![2, 0] inb_S49x16_S1x16_2_0)) (k1_pay19 (ld A5 ![3, 0] inb_S49x16_S1x16_3_0)) (k1_pay20 (ld A5 ![4, 0] inb_S49x16_S1x16_4_0)) (k1_pay21 (ld A5 ![5, 0] inb_S49x16_S1x16_5_0)) (k1_pay22 (ld A5 ![6, 0] inb_S49x16_S1x16_6_0)) (k1_pay23 (ld A5 ![7, 0] inb_S49x16_S1x16_7_0)) (k1_pay24 (ld A5 ![8, 0] inb_S49x16_S1x16_8_0)) (k1_pay25 (ld A5 ![9, 0] inb_S49x16_S1x16_9_0)) (k1_pay26 (ld A5 ![10, 0] inb_S49x16_S1x16_10_0)) (k1_pay27 (ld A5 ![11, 0] inb_S49x16_S1x16_11_0)) (k1_pay28 (ld A5 ![12, 0] inb_S49x16_S1x16_12_0)) (k1_pay29 (ld A5 ![13, 0] inb_S49x16_S1x16_13_0)) (k1_pay30 (ld A5 ![14, 0] inb_S49x16_S1x16_14_0)) (k1_pay31 (ld A5 ![15, 0] inb_S49x16_S1x16_15_0)) (ld A5 ![16, 0] inb_S49x16_S1x16_16_0) k)
      (fun _ => rowInv d L A5 A6 (k.val + 1)) := by
  have hk : k.val < 1024 := lt_of_lt_of_le k.isLt k1_t2_abs.2.1
  have e9 := segs_apply A5 A6 ⟨k.val, hk⟩ _ (k1_off3_inb k) (k1_off3_eq k)
  have h17 : ∀ l : S16.Idx, _ = (rowS (seg (colOf A5 (l 0)) (A6 (ix2 ⟨k.val, hk⟩ (l 0))))).val := fun l =>
    (congrArg (fun w => (IntOp.addi w 17#32).toNat) (e9 l)).trans (addi17 _ _)
  have h33 : ∀ l : S16.Idx, _ = (rowC (seg (colOf A5 (l 0)) (A6 (ix2 ⟨k.val, hk⟩ (l 0))))).val := fun l =>
    (congrArg (fun w => (IntOp.addi w 33#32).toNat) (e9 l)).trans (addi33 _ _)
  unfold rowInv rowProg
  iintro ⟨H5, H6, ⟨%f, %hf, H7⟩⟩
  iapply (wp_load 𝒱₀ (thr d L) none Set.univ (m := (s6 : Memref sig .scVector .vmem S1024x16 .f32)) (S := Finset.univ) (Finset.subset_univ _)) $$ H6; iintro H6
  iapply (wp_assume 𝒱₀ (thr d L) none Set.univ (chk_of _ _ h17))
  iapply (wp_load_rect 𝒱₀ (thr d L) none Set.univ (m := (s5 : Memref sig .scVector .vmem S49x16 .f32)) (r := Rect.whole S49x16) (S := Finset.univ) (q := fullShare) (Finset.subset_univ _)) $$ H5; iintro H5
  iapply (wp_assume 𝒱₀ (thr d L) none Set.univ (chk_of _ _ h33))
  iapply (wp_load_rect 𝒱₀ (thr d L) none Set.univ (m := (s5 : Memref sig .scVector .vmem S49x16 .f32)) (r := Rect.whole S49x16) (S := Finset.univ) (q := fullShare) (Finset.subset_univ _)) $$ H5; iintro H5
  iapply (wp_load 𝒱₀ (thr d L) none Set.univ (m := (s7 : Memref sig .scVector .vmem S1024x16 .f32)) (S := Finset.univ) (Finset.subset_univ _)) $$ H7; iintro H7
  iapply (wp_store 𝒱₀ (thr d L) none Set.univ (m := (s7 : Memref sig .scVector .vmem S1024x16 .f32)) (r := (Rect.unit (s := S1024x16) (k1_off4 k) S1x16.size (k1_off4_inb k))) (Mk := Finset.univ) (S := Finset.univ) (Finset.subset_univ _)) $$ H7; iintro H7
  rw [wp_ret]
  imodintro
  isplitl [H5]; · iexact H5
  isplitl [H6]; · iexact H6
  iexists _
  isplitr [H7]
  on_goal 2 => iexact H7
  ipureintro
  intro j hj
  refine store_row A5 A6 ⟨k.val, hk⟩ _ (k1_off4_inb k) (k1_off4_eq k) f hf _ (fun l => ?_) j hj
  refine pay32_apply (colOf A5 l) (A6 (ix2 ⟨k.val, hk⟩ l)) _ _ _ _ _ l (ld_cast A5 0 _ (ix1 l)) (ld_cast A5 16 _ (ix1 l)) (ld6_cast A6 ⟨k.val, hk⟩ _ _ (k1_off3_eq k) (ix1 l))
    ?_ ?_ 0
  · exact gather_apply A5 _ (Memref.read_access_whole (Elt F) cc1_scratch0 A5) _ _ h17 _ (ix1 l)
  · exact gather_apply A5 _ (Memref.read_access_whole (Elt F) cc1_scratch0 A5) _ _ h33 _ (ix1 l)

end Steps

end Cert.Proof.KernelIdeal
-- ==== Proof.KernelIdeal.Tile.lean ====
/-
  A tile's body with its values: the block of the table fetched, then for each of eight blocks of rows the block of `x`
  fetched, interpolated row by row, and written out; twice, for the tile's two blocks of sixteen columns.
-/
module

public import proofs.«01_k».proof.Proof.KernelIdeal.Step

@[expose] public section

set_option maxRecDepth 16384

noncomputable section

namespace Cert.Proof.KernelIdeal

open Cert.KernelIdeal Cert.KernelIdeal.Gen Cert.Proof.Seg

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F]

/-! ## The values -/

/-- What the kernel computes from its table `T` and `X`: each element by its own column of the table. -/
def outVal (T : S49x1024.Idx → F .f32) (X : S8192x1024.Idx → F .f32) : S8192x1024.Idx → F .f32 :=
  fun j => kval (fun r => T (ix2 r (j 1))) (X j)

/-- The columns of tile number `w`, in the two arrays' shapes. -/
def stripX (w : ℕ) : Finset S8192x1024.Idx := Finset.univ.filter fun j => (j 1).val / 32 = w
def stripT (w : ℕ) : Finset S49x1024.Idx := Finset.univ.filter fun j => (j 1).val / 32 = w

/-- A block at `off` lies inside its array. -/
abbrev InbX (off : Fin 2 → ℕ) : Prop := ∀ a, off a + S1024x16.size a ≤ S8192x1024.size a
abbrev InbT (off : Fin 2 → ℕ) : Prop := ∀ a, off a + S49x16.size a ≤ S49x1024.size a

abbrev rX (off : Fin 2 → ℕ) (h : InbX off) : Rect S8192x1024 := Rect.unit (s := S8192x1024) off S1024x16.size h
abbrev rT (off : Fin 2 → ℕ) (h : InbT off) : Rect S49x1024 := Rect.unit (s := S49x1024) off S49x16.size h
abbrev xBlk (off : Fin 2 → ℕ) (h : InbX off) : Memref sig .scVector .hbm S1024x16 .f32 := (xW : Memref sig .scVector .hbm S8192x1024 .f32).slice (rX off h) (fun _ => rfl)
abbrev oBlk (off : Fin 2 → ℕ) (h : InbX off) : Memref sig .scVector .hbm S1024x16 .f32 := (oW : Memref sig .scVector .hbm S8192x1024 .f32).slice (rX off h) (fun _ => rfl)
abbrev tBlk (off : Fin 2 → ℕ) (h : InbT off) : Memref sig .scVector .hbm S49x16 .f32 := (tW : Memref sig .scVector .hbm S49x1024 .f32).slice (rT off h) (fun _ => rfl)

/-- A block of `X` as it is fetched. -/
abbrev blkX (off : Fin 2 → ℕ) (h : InbX off) (X : S8192x1024.Idx → F .f32) : S1024x16.Idx → F .f32 := fun i => X ((xBlk off h).view.emb i)
abbrev blkT (off : Fin 2 → ℕ) (h : InbT off) (T : S49x1024.Idx → F .f32) : S49x16.Idx → F .f32 := fun i => T ((tBlk off h).view.emb i)

theorem emb_xBlk (off : Fin 2 → ℕ) (h : InbX off) (i : S1024x16.Idx) (a : Fin 2) : ((xBlk off h).view.emb i a).val = off a + (i a).val :=
  (congrArg (off a + ·) (Nat.one_mul _))
theorem emb_tBlk (off : Fin 2 → ℕ) (h : InbT off) (i : S49x16.Idx) (a : Fin 2) : ((tBlk off h).view.emb i a).val = off a + (i a).val :=
  (congrArg (off a + ·) (Nat.one_mul _))

theorem set_xBlk (off : Fin 2 → ℕ) (h : InbX off) (w : ℕ) (hw : 32 * w ≤ off 1 ∧ off 1 + 16 ≤ 32 * w + 32) : (xBlk off h).view.set ⊆ stripX w := by
  intro j hj
  obtain ⟨i, -, rfl⟩ := Finset.mem_map.mp hj
  refine Finset.mem_filter.mpr ⟨Finset.mem_univ _, ?_⟩
  have e := emb_xBlk off h i 1
  have : (i 1).val < 16 := (i 1).isLt
  change ((xBlk off h).view.emb i 1).val / 32 = w
  omega
theorem set_tBlk (off : Fin 2 → ℕ) (h : InbT off) (w : ℕ) (hw : 32 * w ≤ off 1 ∧ off 1 + 16 ≤ 32 * w + 32) : (tBlk off h).view.set ⊆ stripT w := by
  intro j hj
  obtain ⟨i, -, rfl⟩ := Finset.mem_map.mp hj
  refine Finset.mem_filter.mpr ⟨Finset.mem_univ _, ?_⟩
  have e := emb_tBlk off h i 1
  have : (i 1).val < 16 := (i 1).isLt
  change ((tBlk off h).view.emb i 1).val / 32 = w
  omega

/-- A block interpolated is that block of the result. -/
theorem rowRes_blk (offT offX : Fin 2 → ℕ) (hT : InbT offT) (hX : InbX offX) (h0 : offT 0 = 0) (h1 : offT 1 = offX 1) (T : S49x1024.Idx → F .f32) (X : S8192x1024.Idx → F .f32) (i : S1024x16.Idx) :
    rowRes (blkT offT hT T) (blkX offX hX X) i = outVal T X ((xBlk offX hX).view.emb i) := by
  unfold rowRes outVal
  congr 1
  funext r
  unfold colOf
  show T _ = T _
  congr 1
  funext a
  apply Fin.ext
  rw [emb_tBlk]
  match a with
  | 0 => show offT 0 + r.val = r.val; omega
  | 1 =>
    have e := emb_xBlk offX hX i 1
    show offT 1 + (i 1).val = ((xBlk offX hX).view.emb i 1).val
    omega

theorem write_s5 (A : S49x16.Idx → F .f32) (off : Fin 2 → ℕ) (h : InbT off) (T : S49x1024.Idx → F .f32) :
    (s5 : Memref sig .scVector .vmem S49x16 .f32).view.write (Elt F) A ((tBlk off h).view.read (Elt F) T) Finset.univ = blkT off h T :=
  View.write_whole_univ _ _ _
theorem write_s6 (A : S1024x16.Idx → F .f32) (off : Fin 2 → ℕ) (h : InbX off) (X : S8192x1024.Idx → F .f32) :
    (s6 : Memref sig .scVector .vmem S1024x16 .f32).view.write (Elt F) A ((xBlk off h).view.read (Elt F) X) Finset.univ = blkX off h X :=
  View.write_whole_univ _ _ _

/-- Writing block `k` out extends the elements computed by that block's. -/
theorem write_out (A : S1024x16.Idx → F .f32) (b k : ℕ) (off : Fin 2 → ℕ) (h : InbX off) (e : off = ![1024 * k, b]) (f g : S8192x1024.Idx → F .f32) (P : S8192x1024.Idx → Prop)
    (hf : ∀ j, (P j ∨ (b ≤ (j 1).val ∧ (j 1).val < b + 16 ∧ (j 0).val < 1024 * k)) → f j = g j)
    (hA : ∀ i, A i = g ((xBlk off h).view.emb i)) (j : S8192x1024.Idx) (hj : P j ∨ (b ≤ (j 1).val ∧ (j 1).val < b + 16 ∧ (j 0).val < 1024 * (k + 1))) :
    (oBlk off h).view.write (Elt F) f ((s7 : Memref sig .scVector .vmem S1024x16 .f32).view.read (Elt F) A) Finset.univ j = g j := by
  have hread : (s7 : Memref sig .scVector .vmem S1024x16 .f32).view.read (Elt F) A = A := View.read_whole _ _
  rw [hread]
  by_cases hm : ∃ i, (xBlk off h).view.emb i = j
  · obtain ⟨i, rfl⟩ := hm
    exact (View.write_emb_of_mem (Val := Elt F) (v := (oBlk off h).view) f A (M := Finset.univ) (x := i) (Finset.mem_univ _)).trans (hA i)
  · refine (View.write_of_not_mem (Val := Elt F) (v := (oBlk off h).view) f A Finset.univ fun hm' => ?_).trans (hf j ?_)
    · obtain ⟨i, -, ei⟩ := Finset.mem_map.mp hm'
      exact hm ⟨i, ei⟩
    · rcases hj with hj | ⟨h1, h2, h3⟩
      · exact .inl hj
      · by_cases h4 : (j 0).val < 1024 * k
        · exact .inr ⟨h1, h2, h4⟩
        · refine absurd ⟨ix2 ⟨(j 0).val - 1024 * k, by omega⟩ ⟨(j 1).val - b, by omega⟩, ?_⟩ hm
          subst e
          funext a
          apply Fin.ext
          rw [emb_xBlk]
          match a with
          | 0 => show 1024 * k + ((j 0).val - 1024 * k) = (j 0).val; omega
          | 1 => show b + ((j 1).val - b) = (j 1).val; omega

/-! ## The programs -/

section Steps

variable (d : Dev nD) (L : grid1.Coords)

/-- One block of rows: fetch, interpolate row by row, write out. -/
def blkProg (off : Fin 2 → ℕ) (h : InbX off) (off' : Fin 2 → ℕ) (h' : InbX off') (qX qO : DmaSems sig S_) (v8 v11 v14 v17 v20 v23 v26 v29 v32 v35 v38 v41 v44 v47 v50 v53 : FVec F S16 .f32) (v55 : Vec F S1x16 .f32) :
    Prog (TpuEff nD τ sig (Elt F) Λ₀ (.scVector (cV L) (jV L))) (BitVec 32) :=
  .op (.enqueueDma (xBlk off h) (.here s6) (.dma qX.sem) (View.wordExact_bits rfl) (Memref.isWhole_whole cc1_scratch1).wordExact ⟨Or.inl rfl, trivial⟩) fun _ =>
  .op (.waitDma2 qX.sem (xBlk off h) s6 (View.wordExact_bits rfl) (Memref.isWhole_whole cc1_scratch1).wordExact) fun _ =>
  (Scf.Loop.for k1_t2_loop k1_t2_ok 0#32 fun k' _ => rowProg L v8 v11 v14 v17 v20 v23 v26 v29 v32 v35 v38 v41 v44 v47 v50 v53 v55 k') >>= fun _ =>
  .op (.enqueueDma s7 (.here (oBlk off' h')) (.dma qO.sem) (Memref.isWhole_whole cc1_scratch2).wordExact (View.wordExact_bits rfl) ⟨Or.inl rfl, trivial⟩) fun _ =>
  .op (.waitDma2 qO.sem s7 (oBlk off' h') (Memref.isWhole_whole cc1_scratch2).wordExact (View.wordExact_bits rfl)) fun _ =>
  .ret 0#32

/-- One block of columns: the table's block fetched, the seventeen breakpoint rows loaded, the eight blocks of rows. -/
def halfProg (offT : Fin 2 → ℕ) (hT : InbT offT) (off : Fin k1_t1_loop.trips → Fin 2 → ℕ) (h : ∀ k, InbX (off k))
    (off' : Fin k1_t1_loop.trips → Fin 2 → ℕ) (h' : ∀ k, InbX (off' k)) (qT qX qO : DmaSems sig S_) :
    Prog (TpuEff nD τ sig (Elt F) Λ₀ (.scVector (cV L) (jV L))) PUnit :=
  .op (.enqueueDma (tBlk offT hT) (.here s5) (.dma qT.sem) (View.wordExact_bits rfl) (Memref.isWhole_whole cc1_scratch0).wordExact ⟨Or.inl rfl, trivial⟩) fun _ =>
  .op (.waitDma2 qT.sem (tBlk offT hT) s5 (View.wordExact_bits rfl) (Memref.isWhole_whole cc1_scratch0).wordExact) fun _ =>
  .op (.load s5 (Rect.unit (s := S49x16) ![0, 0] S1x16.size inb_S49x16_S1x16_0_0).toLoadRect (View.loadsAt_vmem h_S1x16)) fun u0 =>
  .op (.load s5 (Rect.unit (s := S49x16) ![1, 0] S1x16.size inb_S49x16_S1x16_1_0).toLoadRect (View.loadsAt_vmem h_S1x16)) fun u1 =>
  .op (.load s5 (Rect.unit (s := S49x16) ![2, 0] S1x16.size inb_S49x16_S1x16_2_0).toLoadRect (View.loadsAt_vmem h_S1x16)) fun u2 =>
  .op (.load s5 (Rect.unit (s := S49x16) ![3, 0] S1x16.size inb_S49x16_S1x16_3_0).toLoadRect (View.loadsAt_vmem h_S1x16)) fun u3 =>
  .op (.load s5 (Rect.unit (s := S49x16) ![4, 0] S1x16.size inb_S49x16_S1x16_4_0).toLoadRect (View.loadsAt_vmem h_S1x16)) fun u4 =>
  .op (.load s5 (Rect.unit (s := S49x16) ![5, 0] S1x16.size inb_S49x16_S1x16_5_0).toLoadRect (View.loadsAt_vmem h_S1x16)) fun u5 =>
  .op (.load s5 (Rect.unit (s := S49x16) ![6, 0] S1x16.size inb_S49x16_S1x16_6_0).toLoadRect (View.loadsAt_vmem h_S1x16)) fun u6 =>
  .op (.load s5 (Rect.unit (s := S49x16) ![7, 0] S1x16.size inb_S49x16_S1x16_7_0).toLoadRect (View.loadsAt_vmem h_S1x16)) fun u7 =>
  .op (.load s5 (Rect.unit (s := S49x16) ![8, 0] S1x16.size inb_S49x16_S1x16_8_0).toLoadRect (View.loadsAt_vmem h_S1x16)) fun u8 =>
  .op (.load s5 (Rect.unit (s := S49x16) ![9, 0] S1x16.size inb_S49x16_S1x16_9_0).toLoadRect (View.loadsAt_vmem h_S1x16)) fun u9 =>
  .op (.load s5 (Rect.unit (s := S49x16) ![10, 0] S1x16.size inb_S49x16_S1x16_10_0).toLoadRect (View.loadsAt_vmem h_S1x16)) fun u10 =>
  .op (.load s5 (Rect.unit (s := S49x16) ![11, 0] S1x16.size inb_S49x16_S1x16_11_0).toLoadRect (View.loadsAt_vmem h_S1x16)) fun u11 =>
  .op (.load s5 (Rect.unit (s := S49x16) ![12, 0] S1x16.size inb_S49x16_S1x16_12_0).toLoadRect (View.loadsAt_vmem h_S1x16)) fun u12 =>
  .op (.load s5 (Rect.unit (s := S49x16) ![13, 0] S1x16.size inb_S49x16_S1x16_13_0).toLoadRect (View.loadsAt_vmem h_S1x16)) fun u13 =>
  .op (.load s5 (Rect.unit (s := S49x16) ![14, 0] S1x16.size inb_S49x16_S1x16_14_0).toLoadRect (View.loadsAt_vmem h_S1x16)) fun u14 =>
  .op (.load s5 (Rect.unit (s := S49x16) ![15, 0] S1x16.size inb_S49x16_S1x16_15_0).toLoadRect (View.loadsAt_vmem h_S1x16)) fun u15 =>
  .op (.load s5 (Rect.unit (s := S49x16) ![16, 0] S1x16.size inb_S49x16_S1x16_16_0).toLoadRect (View.loadsAt_vmem h_S1x16)) fun u16 =>
  (Scf.Loop.for k1_t1_loop k1_t1_ok 0#32 fun k _ => blkProg L (off k) (h k) (off' k) (h' k) qX qO (k1_pay16 u0) (k1_pay17 u1) (k1_pay18 u2) (k1_pay19 u3) (k1_pay20 u4) (k1_pay21 u5) (k1_pay22 u6) (k1_pay23 u7) (k1_pay24 u8) (k1_pay25 u9) (k1_pay26 u10) (k1_pay27 u11) (k1_pay28 u12) (k1_pay29 u13) (k1_pay30 u14) (k1_pay31 u15) u16) >>= fun _ =>
  .ret ⟨⟩

set_option maxHeartbeats 4000000 in
/-- The tile's body is its two blocks of columns. -/
theorem body_eq : cc1__sc_body (F := F) L xW (Memref.isWhole_whole _) tW (Memref.isWhole_whole _) oW (Memref.isWhole_whole _) s5 (Memref.isWhole_whole _) s6 (Memref.isWhole_whole _) s7 (Memref.isWhole_whole _)
      cc1_scoped0 cc1_scoped1 cc1_scoped2 cc1_scoped3 cc1_scoped4 cc1_scoped5
    = (halfProg L (k1_off1 L) (k1_off1_inb L) (k1_off2 L) (k1_off2_inb L) (k1_off5 L) (k1_off5_inb L) cc1_scoped0 cc1_scoped1 cc1_scoped2 >>= fun _ =>
        halfProg L (k1_off6 L) (k1_off6_inb L) (k1_off7 L) (k1_off7_inb L) (k1_off7 L) (k1_off7_inb L) cc1_scoped3 cc1_scoped4 cc1_scoped5) := rfl

/-! ## What they do -/

abbrev xPts (w : ℕ) (X : S8192x1024.Idx → F .f32) : sProp 𝕄 := xLoc d ↦[stripX w]{fullShare} X
abbrev tPts (w : ℕ) (T : S49x1024.Idx → F .f32) : sProp 𝕄 := tLoc d ↦[stripT w]{fullShare} T
abbrev oPts (w : ℕ) (f : S8192x1024.Idx → F .f32) : sProp 𝕄 := oLoc d ↦[stripX w]{fullShare} f
abbrev sem0 (q : DmaSems sig S_) : sProp 𝕄 := semVal (thr d L, SemLoc.dma q.sem) 0
/-- The waits so far: those at entry and the tile's own. -/
abbrev owesAfter (O : CellTallies nD τ sig (HIx 1)) (W : Waits sig (HIx 1)) : sProp 𝕄 :=
  iprop(∃ W', ⌜∀ p ∈ W', p ∈ W ∨ p.2 = none⌝ ∗ owes (thr d L) O W')

theorem waits_insert {W W' : Waits sig (HIx 1)} {sm : SemLoc sig} (h : ∀ p ∈ W', p ∈ W ∨ p.2 = none) :
    ∀ p ∈ (insert (sm, none) W' : Waits sig (HIx 1)), p ∈ W ∨ p.2 = none := by
  intro p hp
  rcases Finset.mem_insert.mp hp with rfl | hp
  · exact .inr rfl
  · exact h p hp

/-- The result with every element in `P` computed. -/
abbrev oDone (w : ℕ) (T : S49x1024.Idx → F .f32) (X : S8192x1024.Idx → F .f32) (P : S8192x1024.Idx → Prop) : sProp 𝕄 :=
  iprop(∃ f : S8192x1024.Idx → F .f32, ⌜∀ j, P j → f j = outVal T X j⌝ ∗ oPts d w f)

/-- The elements computed before block `k` of the columns from `b`, beside `P`. -/
abbrev doneAt (P : S8192x1024.Idx → Prop) (b k : ℕ) : S8192x1024.Idx → Prop :=
  fun j => P j ∨ (b ≤ (j 1).val ∧ (j 1).val < b + 16 ∧ (j 0).val < 1024 * k)

/-- Before block `k` of the columns from `b`. -/
def blkInv (w b : ℕ) (T : S49x1024.Idx → F .f32) (X : S8192x1024.Idx → F .f32) (A5 : S49x16.Idx → F .f32) (P : S8192x1024.Idx → Prop) (qX qO : DmaSems sig S_)
    (O : CellTallies nD τ sig (HIx 1)) (W : Waits sig (HIx 1)) (k : ℕ) : sProp 𝕄 :=
  iprop(levAts (K (F := F)).L (K (F := F)).lev ∗ xPts d w X ∗ pts5 d L A5 ∗ (∃ A6, pts6 d L A6) ∗ (∃ A7, pts7 d L A7) ∗ oDone d w T X (doneAt P b k) ∗ sem0 d L qX ∗ sem0 d L qO ∗ owesAfter d L O W)

set_option maxHeartbeats 4000000 in
theorem blk_step (w b : ℕ) (hb : 32 * w ≤ b ∧ b + 16 ≤ 32 * w + 32) (T : S49x1024.Idx → F .f32) (X : S8192x1024.Idx → F .f32)
    (offT : Fin 2 → ℕ) (hT : InbT offT) (eT : offT = ![0, b]) (k : Fin k1_t1_loop.trips) (off : Fin 2 → ℕ) (h : InbX off) (e : off = ![1024 * k.val, b])
    (off' : Fin 2 → ℕ) (h' : InbX off') (e' : off' = ![1024 * k.val, b]) (P : S8192x1024.Idx → Prop) (qX qO : DmaSems sig S_)
    (O : CellTallies nD τ sig (HIx 1)) (W : Waits sig (HIx 1)) (hO : ∀ g, O g none = 0) (A5 : S49x16.Idx → F .f32) (hA5 : A5 = blkT offT hT T) :
    blkInv d L w b T X A5 P qX qO O W k.val ⊢ wp frame (wpE (defs₀ (F := F)) 𝒱₀ (thr d L) none) Set.univ
      (blkProg L off h off' h' qX qO (k1_pay16 (ld A5 ![0, 0] inb_S49x16_S1x16_0_0)) (k1_pay17 (ld A5 ![1, 0] inb_S49x16_S1x16_1_0)) (k1_pay18 (ld A5 ![2, 0] inb_S49x16_S1x16_2_0)) (k1_pay19 (ld A5 ![3, 0] inb_S49x16_S1x16_3_0)) (k1_pay20 (ld A5 ![4, 0] inb_S49x16_S1x16_4_0)) (k1_pay21 (ld A5 ![5, 0] inb_S49x16_S1x16_5_0)) (k1_pay22 (ld A5 ![6, 0] inb_S49x16_S1x16_6_0)) (k1_pay23 (ld A5 ![7, 0] inb_S49x16_S1x16_7_0)) (k1_pay24 (ld A5 ![8, 0] inb_S49x16_S1x16_8_0)) (k1_pay25 (ld A5 ![9, 0] inb_S49x16_S1x16_9_0)) (k1_pay26 (ld A5 ![10, 0] inb_S49x16_S1x16_10_0)) (k1_pay27 (ld A5 ![11, 0] inb_S49x16_S1x16_11_0)) (k1_pay28 (ld A5 ![12, 0] inb_S49x16_S1x16_12_0)) (k1_pay29 (ld A5 ![13, 0] inb_S49x16_S1x16_13_0)) (k1_pay30 (ld A5 ![14, 0] inb_S49x16_S1x16_14_0)) (k1_pay31 (ld A5 ![15, 0] inb_S49x16_S1x16_15_0)) (ld A5 ![16, 0] inb_S49x16_S1x16_16_0))
      (fun _ => blkInv d L w b T X A5 P qX qO O W (k.val + 1)) := by
  have hset : (xBlk off h).view.set ⊆ stripX w := set_xBlk off h w (by rw [e]; exact hb)
  have hset' : (oBlk off' h').view.set ⊆ stripX w := set_xBlk off' h' w (by rw [e']; exact hb)
  unfold blkInv blkProg
  iintro ⟨#Hlv, Hx, H5, ⟨%A6, H6⟩, ⟨%A7, H7⟩, ⟨%f, %hf, Ho⟩, HqX, HqO, ⟨%W', %hW', HO⟩⟩
  ihave Hx' := (pointsTo_split_subset (ℓ := xLoc d) (f := X) hset).1 $$ Hx
  icases Hx' with ⟨Hx1, Hx2⟩
  -- the block of `x` fetched
  iapply (Transfers.wp_dmaLocal EC 𝒱₀ (thr d L) none (src := xBlk off h) (dst := (s6 : Memref sig .scVector .vmem S1024x16 .f32)) (Sd := Finset.univ) none _ rfl (View.dmaCredit_pos _ (by decide)) (Finset.subset_univ _)) $$ [Hx1 H6 HqX]
  · isplitl [Hx1]; · iexact Hx1
    isplitl [H6]; · iexact H6
    iexact HqX
  iintro Hfl
  iapply (Transfers.wp_waitLocalO EC 𝒱₀ (thr d L) none none rfl (O := O) (W := W')) $$ [Hfl HO]
  · isplitl [Hfl]; · iexact Hfl
    isplitl [HO]; · iexact HO
    iapply ((K (F := F)).mayWait_none (SemLoc.dma qX.sem) hO); iexact Hlv
  iintro ⟨⟨H6, Hx1⟩, HqX, HO⟩
  rw [show (ReadAs.same.apply ((xBlk off h).view.read (Elt F) X) : S1024x16.Idx → F .f32) = (xBlk off h).view.read (Elt F) X from rfl, write_s6]
  ihave Hx := (pointsTo_split_subset (ℓ := xLoc d) (f := X) hset).2 $$ [Hx1 Hx2]
  · isplitl [Hx1] <;> iassumption
  -- the rows
  iapply (Scf.wp_for_bind frame (wpE (defs₀ (F := F)) 𝒱₀ (thr d L) none) Set.univ _ _ _ k1_t2_ok 0#32 _ (fun i _ => rowInv d L A5 (blkX off h X) i) (fun k' _ => row_step d L A5 (blkX off h X) k')) $$ [H5 H6 H7]
  · unfold rowInv
    isplitl [H5]; · iexact H5
    isplitl [H6]; · iexact H6
    iexists A7
    isplitr [H7]
    · ipureintro; intro j hj; exact absurd hj (Nat.not_lt_zero _)
    iexact H7
  iintro %acc Hrow
  unfold rowInv
  icases Hrow with ⟨H5, H6, ⟨%A7', %hA7, H7⟩⟩
  -- the block written out
  iapply (Transfers.wp_dmaLocal EC 𝒱₀ (thr d L) none (src := (s7 : Memref sig .scVector .vmem S1024x16 .f32)) (dst := oBlk off' h') (Sd := stripX w) none _ rfl (View.dmaCredit_pos _ (by decide)) hset') $$ [H7 Ho HqO]
  · isplitl [H7]
    · rw [show (s7 : Memref sig .scVector .vmem S1024x16 .f32).view.set = Finset.univ from View.set_whole _]; iexact H7
    isplitl [Ho]; · iexact Ho
    iexact HqO
  iintro Hfl
  iapply (Transfers.wp_waitLocalO EC 𝒱₀ (thr d L) none none rfl (O := O) (W := insert (SemLoc.dma qX.sem, none) W')) $$ [Hfl HO]
  · isplitl [Hfl]; · iexact Hfl
    isplitl [HO]; · iexact HO
    iapply ((K (F := F)).mayWait_none (SemLoc.dma qO.sem) hO); iexact Hlv
  iintro ⟨⟨Ho, H7⟩, HqO, HO⟩
  rw [wp_ret]
  imodintro
  isplitr; · iexact Hlv
  isplitl [Hx]; · iexact Hx
  isplitl [H5]; · iexact H5
  isplitl [H6]; · iexists _; iexact H6
  isplitl [H7]
  · iexists A7'
    rw [show (s7 : Memref sig .scVector .vmem S1024x16 .f32).view.set = Finset.univ from View.set_whole _]; iexact H7
  isplitl [Ho]
  · iexists _
    isplitr [Ho]
    on_goal 2 => iexact Ho
    ipureintro
    intro j hj
    refine write_out A7' b k.val off' h' e' f (outVal T X) P hf (fun i => ?_) j hj
    have hi : (i 0).val < 1024 := (i 0).isLt
    have heq : off = off' := e.trans e'.symm
    subst heq
    rw [hA7 i hi, hA5]
    exact rowRes_blk offT off hT h (by rw [eT]; rfl) (by rw [eT, e]; rfl) T X i
  isplitl [HqX]; · iexact HqX
  isplitl [HqO]; · iexact HqO
  iexists _
  isplitr [HO]
  on_goal 2 => iexact HO
  ipureintro
  exact waits_insert (waits_insert hW')

/-- What a block of columns takes and leaves, with the elements in `P` computed. -/
def halfRes (w : ℕ) (T : S49x1024.Idx → F .f32) (X : S8192x1024.Idx → F .f32) (P : S8192x1024.Idx → Prop)
    (O : CellTallies nD τ sig (HIx 1)) (W : Waits sig (HIx 1)) : sProp 𝕄 :=
  iprop(xPts d w X ∗ tPts d w T ∗ oDone d w T X P ∗ (∃ A5, pts5 d L A5) ∗ (∃ A6, pts6 d L A6) ∗ (∃ A7, pts7 d L A7) ∗ owesAfter d L O W)

set_option maxHeartbeats 4000000 in
/-- One block of columns: the elements of the columns from `b` are computed. -/
theorem half_wp (w b : ℕ) (hb : 32 * w ≤ b ∧ b + 16 ≤ 32 * w + 32) (T : S49x1024.Idx → F .f32) (X : S8192x1024.Idx → F .f32)
    (offT : Fin 2 → ℕ) (hT : InbT offT) (eT : offT = ![0, b])
    (off : Fin k1_t1_loop.trips → Fin 2 → ℕ) (h : ∀ k, InbX (off k)) (e : ∀ k, off k = ![1024 * k.val, b])
    (off' : Fin k1_t1_loop.trips → Fin 2 → ℕ) (h' : ∀ k, InbX (off' k)) (e' : ∀ k, off' k = ![1024 * k.val, b])
    (P : S8192x1024.Idx → Prop) (qT qX qO : DmaSems sig S_)
    (O : CellTallies nD τ sig (HIx 1)) (W : Waits sig (HIx 1)) (hO : ∀ g, O g none = 0) :
    iprop(levAts (K (F := F)).L (K (F := F)).lev ∗ halfRes d L w T X P O W ∗ sem0 d L qT ∗ sem0 d L qX ∗ sem0 d L qO)
      ⊢ wp frame (wpE (defs₀ (F := F)) 𝒱₀ (thr d L) none) Set.univ (halfProg L offT hT off h off' h' qT qX qO)
        (fun _ => iprop(halfRes d L w T X (fun j => P j ∨ (b ≤ (j 1).val ∧ (j 1).val < b + 16)) O W ∗ sem0 d L qT ∗ sem0 d L qX ∗ sem0 d L qO)) := by
  have hset : (tBlk offT hT).view.set ⊆ stripT w := set_tBlk offT hT w (by rw [eT]; exact hb)
  unfold halfRes halfProg
  iintro ⟨#Hlv, ⟨Hx, Ht, ⟨%f, %hf, Ho⟩, ⟨%A5, H5⟩, H6, H7, ⟨%W', %hW', HO⟩⟩, HqT, HqX, HqO⟩
  ihave Ht' := (pointsTo_split_subset (ℓ := tLoc d) (f := T) hset).1 $$ Ht
  icases Ht' with ⟨Ht1, Ht2⟩
  iapply (Transfers.wp_dmaLocal EC 𝒱₀ (thr d L) none (src := tBlk offT hT) (dst := (s5 : Memref sig .scVector .vmem S49x16 .f32)) (Sd := Finset.univ) none _ rfl (View.dmaCredit_pos _ (by decide)) (Finset.subset_univ _)) $$ [Ht1 H5 HqT]
  · isplitl [Ht1]; · iexact Ht1
    isplitl [H5]; · iexact H5
    iexact HqT
  iintro Hfl
  iapply (Transfers.wp_waitLocalO EC 𝒱₀ (thr d L) none none rfl (O := O) (W := W')) $$ [Hfl HO]
  · isplitl [Hfl]; · iexact Hfl
    isplitl [HO]; · iexact HO
    iapply ((K (F := F)).mayWait_none (SemLoc.dma qT.sem) hO); iexact Hlv
  iintro ⟨⟨H5, Ht1⟩, HqT, HO⟩
  rw [show (ReadAs.same.apply ((tBlk offT hT).view.read (Elt F) T) : S49x16.Idx → F .f32) = (tBlk offT hT).view.read (Elt F) T from rfl, write_s5]
  ihave Ht := (pointsTo_split_subset (ℓ := tLoc d) (f := T) hset).2 $$ [Ht1 Ht2]
  · isplitl [Ht1] <;> iassumption
  iapply (wp_load 𝒱₀ (thr d L) none Set.univ (m := (s5 : Memref sig .scVector .vmem S49x16 .f32)) (S := Finset.univ) (Finset.subset_univ _)) $$ H5; iintro H5
  iapply (wp_load 𝒱₀ (thr d L) none Set.univ (m := (s5 : Memref sig .scVector .vmem S49x16 .f32)) (S := Finset.univ) (Finset.subset_univ _)) $$ H5; iintro H5
  iapply (wp_load 𝒱₀ (thr d L) none Set.univ (m := (s5 : Memref sig .scVector .vmem S49x16 .f32)) (S := Finset.univ) (Finset.subset_univ _)) $$ H5; iintro H5
  iapply (wp_load 𝒱₀ (thr d L) none Set.univ (m := (s5 : Memref sig .scVector .vmem S49x16 .f32)) (S := Finset.univ) (Finset.subset_univ _)) $$ H5; iintro H5
  iapply (wp_load 𝒱₀ (thr d L) none Set.univ (m := (s5 : Memref sig .scVector .vmem S49x16 .f32)) (S := Finset.univ) (Finset.subset_univ _)) $$ H5; iintro H5
  iapply (wp_load 𝒱₀ (thr d L) none Set.univ (m := (s5 : Memref sig .scVector .vmem S49x16 .f32)) (S := Finset.univ) (Finset.subset_univ _)) $$ H5; iintro H5
  iapply (wp_load 𝒱₀ (thr d L) none Set.univ (m := (s5 : Memref sig .scVector .vmem S49x16 .f32)) (S := Finset.univ) (Finset.subset_univ _)) $$ H5; iintro H5
  iapply (wp_load 𝒱₀ (thr d L) none Set.univ (m := (s5 : Memref sig .scVector .vmem S49x16 .f32)) (S := Finset.univ) (Finset.subset_univ _)) $$ H5; iintro H5
  iapply (wp_load 𝒱₀ (thr d L) none Set.univ (m := (s5 : Memref sig .scVector .vmem S49x16 .f32)) (S := Finset.univ) (Finset.subset_univ _)) $$ H5; iintro H5
  iapply (wp_load 𝒱₀ (thr d L) none Set.univ (m := (s5 : Memref sig .scVector .vmem S49x16 .f32)) (S := Finset.univ) (Finset.subset_univ _)) $$ H5; iintro H5
  iapply (wp_load 𝒱₀ (thr d L) none Set.univ (m := (s5 : Memref sig .scVector .vmem S49x16 .f32)) (S := Finset.univ) (Finset.subset_univ _)) $$ H5; iintro H5
  iapply (wp_load 𝒱₀ (thr d L) none Set.univ (m := (s5 : Memref sig .scVector .vmem S49x16 .f32)) (S := Finset.univ) (Finset.subset_univ _)) $$ H5; iintro H5
  iapply (wp_load 𝒱₀ (thr d L) none Set.univ (m := (s5 : Memref sig .scVector .vmem S49x16 .f32)) (S := Finset.univ) (Finset.subset_univ _)) $$ H5; iintro H5
  iapply (wp_load 𝒱₀ (thr d L) none Set.univ (m := (s5 : Memref sig .scVector .vmem S49x16 .f32)) (S := Finset.univ) (Finset.subset_univ _)) $$ H5; iintro H5
  iapply (wp_load 𝒱₀ (thr d L) none Set.univ (m := (s5 : Memref sig .scVector .vmem S49x16 .f32)) (S := Finset.univ) (Finset.subset_univ _)) $$ H5; iintro H5
  iapply (wp_load 𝒱₀ (thr d L) none Set.univ (m := (s5 : Memref sig .scVector .vmem S49x16 .f32)) (S := Finset.univ) (Finset.subset_univ _)) $$ H5; iintro H5
  iapply (wp_load 𝒱₀ (thr d L) none Set.univ (m := (s5 : Memref sig .scVector .vmem S49x16 .f32)) (S := Finset.univ) (Finset.subset_univ _)) $$ H5; iintro H5
  iapply (Scf.wp_for_bind frame (wpE (defs₀ (F := F)) 𝒱₀ (thr d L) none) Set.univ _ _ _ k1_t1_ok 0#32 _ (fun i _ => blkInv d L w b T X (blkT offT hT T) P qX qO O W i)
      (fun k _ => blk_step d L w b hb T X offT hT eT k (off k) (h k) (e k) (off' k) (h' k) (e' k) P qX qO O W hO (blkT offT hT T) rfl)) $$ [Hx H5 H6 H7 Ho HqX HqO HO]
  · unfold blkInv
    isplitr; · iexact Hlv
    isplitl [Hx]; · iexact Hx
    isplitl [H5]; · iexact H5
    isplitl [H6]; · iexact H6
    isplitl [H7]; · iexact H7
    isplitl [Ho]
    · iexists f
      isplitr [Ho]
      · ipureintro
        intro j hj
        rcases hj with hj | ⟨-, -, hj⟩
        · exact hf j hj
        · exact absurd hj (by omega)
      iexact Ho
    isplitl [HqX]; · iexact HqX
    isplitl [HqO]; · iexact HqO
    iexists _
    isplitr [HO]
    on_goal 2 => iexact HO
    ipureintro
    exact waits_insert hW'
  iintro %acc Hinv
  unfold blkInv
  icases Hinv with ⟨-, Hx, H5, H6, H7, ⟨%f', %hf', Ho⟩, HqX, HqO, HO⟩
  rw [wp_ret]
  imodintro
  isplitr [HqT HqX HqO]
  · isplitl [Hx]; · iexact Hx
    isplitl [Ht]; · iexact Ht
    isplitl [Ho]
    · iexists f'
      isplitr [Ho]
      · ipureintro
        intro j hj
        refine hf' j ?_
        rcases hj with hj | ⟨h1, h2⟩
        · exact .inl hj
        · have h3 : (j 0).val < 8192 := (j 0).isLt
          exact .inr ⟨h1, h2, h3⟩
      iexact Ho
    isplitl [H5]; · iexists _; iexact H5
    isplitl [H6]; · iexact H6
    isplitl [H7]; · iexact H7
    iexact HO
  isplitl [HqT]; · iexact HqT
  isplitl [HqX]; · iexact HqX
  iexact HqO

/-- The tile's number: its block of thirty-two columns. -/
abbrev wid (L : grid1.Coords) : ℕ := 2 * (L 1).val + (L 0).val

set_option maxHeartbeats 4000000 in
/-- The tile's body: its columns of the result are computed. -/
theorem body_wp (T : S49x1024.Idx → F .f32) (X f₀ : S8192x1024.Idx → F .f32)
    (O : CellTallies nD τ sig (HIx 1)) (W : Waits sig (HIx 1)) (hO : ∀ g, O g none = 0) :
    iprop(levAts (K (F := F)).L (K (F := F)).lev ∗ (xPts d (wid L) X ∗ tPts d (wid L) T ∗ oPts d (wid L) f₀)
        ∗ ((∃ A5, pts5 d L A5) ∗ (∃ A6, pts6 d L A6) ∗ ∃ A7, pts7 d L A7)
        ∗ (sem0 d L cc1_scoped0 ∗ sem0 d L cc1_scoped1 ∗ sem0 d L cc1_scoped2 ∗ sem0 d L cc1_scoped3 ∗ sem0 d L cc1_scoped4 ∗ sem0 d L cc1_scoped5)
        ∗ owes (thr d L) O W)
      ⊢ wp frame (wpE (defs₀ (F := F)) 𝒱₀ (thr d L) none) Set.univ
        (cc1__sc_body (F := F) L xW (Memref.isWhole_whole _) tW (Memref.isWhole_whole _) oW (Memref.isWhole_whole _) s5 (Memref.isWhole_whole _) s6 (Memref.isWhole_whole _) s7 (Memref.isWhole_whole _)
          cc1_scoped0 cc1_scoped1 cc1_scoped2 cc1_scoped3 cc1_scoped4 cc1_scoped5)
        (fun _ => iprop((xPts d (wid L) X ∗ tPts d (wid L) T ∗ oPts d (wid L) (outVal T X))
          ∗ ((∃ A5, pts5 d L A5) ∗ (∃ A6, pts6 d L A6) ∗ ∃ A7, pts7 d L A7)
          ∗ (sem0 d L cc1_scoped0 ∗ sem0 d L cc1_scoped1 ∗ sem0 d L cc1_scoped2 ∗ sem0 d L cc1_scoped3 ∗ sem0 d L cc1_scoped4 ∗ sem0 d L cc1_scoped5)
          ∗ owesAfter d L O W)) := by
  have h1 := half_wp d L (wid L) (64 * (L 1).val + 32 * (L 0).val) (by unfold wid; omega) T X (k1_off1 L) (k1_off1_inb L) (k1_off1_eq L) (k1_off2 L) (k1_off2_inb L)
    (fun k => k1_off2_eq L k) (k1_off5 L) (k1_off5_inb L) (fun k => k1_off5_eq L k) (fun _ => False) cc1_scoped0 cc1_scoped1 cc1_scoped2 O W hO
  have h2 := half_wp d L (wid L) (64 * (L 1).val + 32 * (L 0).val + 16) (by unfold wid; omega) T X (k1_off6 L) (k1_off6_inb L) (k1_off6_eq L) (k1_off7 L) (k1_off7_inb L)
    (fun k => k1_off7_eq L k) (k1_off7 L) (k1_off7_inb L) (fun k => k1_off7_eq L k)
    (fun j => False ∨ (64 * (L 1).val + 32 * (L 0).val ≤ (j 1).val ∧ (j 1).val < 64 * (L 1).val + 32 * (L 0).val + 16)) cc1_scoped3 cc1_scoped4 cc1_scoped5 O W hO
  rw [body_eq, wp_bind]
  iintro ⟨#Hlv, ⟨Hx, Ht, Ho⟩, ⟨H5, H6, H7⟩, ⟨Hq0, Hq1, Hq2, Hq3, Hq4, Hq5⟩, HO⟩
  iapply (h1.trans (wp_wand frame _ _)) $$ [Hx Ht Ho H5 H6 H7 Hq0 Hq1 Hq2 HO]
  · isplitr; · iexact Hlv
    isplitr [Hq0 Hq1 Hq2]
    · unfold halfRes
      isplitl [Hx]; · iexact Hx
      isplitl [Ht]; · iexact Ht
      isplitl [Ho]
      · iexists f₀
        isplitr [Ho]
        · ipureintro; exact fun _ hj => hj.elim
        iexact Ho
      isplitl [H5]; · iexact H5
      isplitl [H6]; · iexact H6
      isplitl [H7]; · iexact H7
      iexists W
      isplitr [HO]
      · ipureintro; exact fun p hp => .inl hp
      iexact HO
    isplitl [Hq0]; · iexact Hq0
    isplitl [Hq1]; · iexact Hq1
    iexact Hq2
  iintro %_ ⟨Hres, Hq0, Hq1, Hq2⟩
  iapply (h2.trans (wp_wand frame _ _)) $$ [Hres Hq3 Hq4 Hq5]
  · isplitr; · iexact Hlv
    isplitl [Hres]; · iexact Hres
    isplitl [Hq3]; · iexact Hq3
    isplitl [Hq4]; · iexact Hq4
    iexact Hq5
  iintro %_ ⟨Hres, Hq3, Hq4, Hq5⟩
  unfold halfRes
  icases Hres with ⟨Hx, Ht, ⟨%f, %hf, Ho⟩, H5, H6, H7, HO⟩
  isplitl [Hx Ht Ho]
  · isplitl [Hx]; · iexact Hx
    isplitl [Ht]; · iexact Ht
    have hstrip : ∀ j ∈ stripX (wid L), f j = outVal T X j := by
      intro j hj
      refine hf j ?_
      have hj' : (j 1).val / 32 = 2 * (L 1).val + (L 0).val := (Finset.mem_filter.mp hj).2
      by_cases hlt : (j 1).val < 64 * (L 1).val + 32 * (L 0).val + 16
      · exact .inl (.inr ⟨by omega, hlt⟩)
      · exact .inr ⟨by omega, by omega⟩
    iapply (Entails.of_eq (pointsTo_congr (ℓ := oLoc d) hstrip))
    iexact Ho
  isplitl [H5 H6 H7]
  · isplitl [H5]; · iexact H5
    isplitl [H6]; · iexact H6
    iexact H7
  isplitr [HO]
  · isplitl [Hq0]; · iexact Hq0
    isplitl [Hq1]; · iexact Hq1
    isplitl [Hq2]; · iexact Hq2
    isplitl [Hq3]; · iexact Hq3
    isplitl [Hq4]; · iexact Hq4
    iexact Hq5
  iexact HO

end Steps

end Cert.Proof.KernelIdeal
-- ==== Proof.KernelIdeal.Tasks.lean ====
/-
  The SparseCore call's tasks: each tile takes its thirty-two columns of `x`, of the table and of the result, and hands them
  back with its columns of the result computed.
-/
module

public import proofs.«01_k».proof.Proof.KernelIdeal.Tile

@[expose] public section

noncomputable section

namespace Cert.Proof.KernelIdeal

open Cert.KernelIdeal Cert.KernelIdeal.Gen

open Idealize.ShloMosaic
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Own

variable (d : Dev nD) (L : grid1.Coords)

/-- A tile's transfer semaphore as a cell of the machine. -/
abbrev cellOf (q : DmaSems sig S_) : GSem nD τ sig := (thr d L, SemLoc.dma q.sem)

/-- The six transfer semaphores are among the tile's own: they are them, at zero, and the rest. -/
theorem ownSems0_V :
    (ownSems0 (thr d L) : sProp 𝕄)
      = iprop(sem0 d L cc1_scoped0 ∗ sem0 d L cc1_scoped1 ∗ sem0 d L cc1_scoped2 ∗ sem0 d L cc1_scoped3 ∗ sem0 d L cc1_scoped4 ∗ sem0 d L cc1_scoped5
          ∗ bigSep ((((((ownCells (thr d L)).erase (cellOf d L cc1_scoped0)).erase (cellOf d L cc1_scoped1)).erase (cellOf d L cc1_scoped2)).erase
              (cellOf d L cc1_scoped3)).erase (cellOf d L cc1_scoped4) |>.erase (cellOf d L cc1_scoped5)) fun g => semVal g 0) := by
  have ho : ∀ q : DmaSems sig S_, (SemLoc.dma q.sem : SemLoc sig).isScoped .scVector = true → cellOf d L q ∈ ownCells (thr d L) := fun q hq =>
    (mem_ownCells (g := cellOf d L q)).mpr ⟨rfl, hq⟩
  have hne : ∀ q q' : DmaSems sig S_, (SemLoc.dma q.sem : SemLoc sig) ≠ SemLoc.dma q'.sem → cellOf d L q ≠ cellOf d L q' := fun q q' h e => h (Prod.mk.inj e).2
  unfold SparseCore.Cfg.ownSems0
  have m0 := ho cc1_scoped0 (by decide)
  have m1 := Finset.mem_erase.mpr ⟨hne cc1_scoped1 cc1_scoped0 (by decide), ho cc1_scoped1 (by decide)⟩
  have m2 := Finset.mem_erase.mpr ⟨hne cc1_scoped2 cc1_scoped1 (by decide), Finset.mem_erase.mpr ⟨hne cc1_scoped2 cc1_scoped0 (by decide), ho cc1_scoped2 (by decide)⟩⟩
  have m3 := Finset.mem_erase.mpr ⟨hne cc1_scoped3 cc1_scoped2 (by decide), Finset.mem_erase.mpr ⟨hne cc1_scoped3 cc1_scoped1 (by decide), Finset.mem_erase.mpr ⟨hne cc1_scoped3 cc1_scoped0 (by decide), ho cc1_scoped3 (by decide)⟩⟩⟩
  have m4 := Finset.mem_erase.mpr ⟨hne cc1_scoped4 cc1_scoped3 (by decide), Finset.mem_erase.mpr ⟨hne cc1_scoped4 cc1_scoped2 (by decide), Finset.mem_erase.mpr ⟨hne cc1_scoped4 cc1_scoped1 (by decide), Finset.mem_erase.mpr ⟨hne cc1_scoped4 cc1_scoped0 (by decide), ho cc1_scoped4 (by decide)⟩⟩⟩⟩
  have m5 := Finset.mem_erase.mpr ⟨hne cc1_scoped5 cc1_scoped4 (by decide), Finset.mem_erase.mpr ⟨hne cc1_scoped5 cc1_scoped3 (by decide), Finset.mem_erase.mpr ⟨hne cc1_scoped5 cc1_scoped2 (by decide), Finset.mem_erase.mpr ⟨hne cc1_scoped5 cc1_scoped1 (by decide), Finset.mem_erase.mpr ⟨hne cc1_scoped5 cc1_scoped0 (by decide), ho cc1_scoped5 (by decide)⟩⟩⟩⟩⟩
  rw [SparseCore.bigSep_erase' m0, SparseCore.bigSep_erase' m1, SparseCore.bigSep_erase' m2, SparseCore.bigSep_erase' m3, SparseCore.bigSep_erase' m4, SparseCore.bigSep_erase' m5]

/-- The three scratch buffers are among the tile's own: they are them, at some contents, and the rest. -/
theorem ownBufs_V :
    (ownBufs (thr d L) : sProp 𝕄)
      = iprop((∃ f, pts5 d L f) ∗ (∃ f, pts6 d L f) ∗ (∃ f, pts7 d L f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]
  rfl

end Own

variable [FloatOps F]

/-! ## What the handshakes carry -/

section Launch

-- The table, `x` and the result's first contents, on each device.
variable (T : Dev nD → S49x1024.Idx → F .f32) (X O₀ : Dev nD → S8192x1024.Idx → F .f32)

/-- A tile's columns before the task, and after it. -/
abbrev tileIn (d : Dev nD) (w : ℕ) : sProp 𝕄 := iprop(xPts d w (X d) ∗ tPts d w (T d) ∗ oPts d w (O₀ d))
abbrev tileOut (d : Dev nD) (w : ℕ) : sProp 𝕄 := iprop(xPts d w (X d) ∗ tPts d w (T d) ∗ oPts d w (outVal (T d) (X d)))

/-- What the handshakes carry: to a SparseCore the columns of its sixteen tiles, to each tile its own, and back. -/
def P : (K (F := F)).Pay (nD := nD) (Val := Elt F) (Name := ℕ) (U := UU) where
  st q d c := match q with | 0 => bigSep (Finset.univ : Finset (Fin 16)) fun i => tileIn T X O₀ d (2 * i.val + c.val)
  dn q d c := match q with | 0 => bigSep (Finset.univ : Finset (Fin 16)) fun i => tileOut T X d (2 * i.val + c.val)
  go q d c i := match q with | 0 => tileIn T X O₀ d (2 * i.val + c.val)
  td q d c i := match q with | 0 => tileOut T X d (2 * i.val + c.val)
  x _ _ := iprop(emp)

instance P_storable : (P T X O₀).IsStorable where
  st q d c := match q with
    | 0 => (inferInstance : BI.Storable (upEmb : UEmb _ 𝕄) (bigSep (Finset.univ : Finset (Fin 16)) fun i => tileIn T X O₀ d (2 * i.val + c.val)))
  dn q d c := match q with
    | 0 => (inferInstance : BI.Storable (upEmb : UEmb _ 𝕄) (bigSep (Finset.univ : Finset (Fin 16)) fun i => tileOut T X d (2 * i.val + c.val)))
  go q d c i := match q with
    | 0 => (inferInstance : BI.Storable (upEmb : UEmb _ 𝕄) (tileIn T X O₀ d (2 * i.val + c.val)))
  td q d c i := match q with
    | 0 => (inferInstance : BI.Storable (upEmb : UEmb _ 𝕄) (tileOut T X d (2 * i.val + c.val)))

/-! ## A tile's task -/

/-- The tile's body from everything the tile owns. -/
theorem tile_body (d : Dev nD) (L : grid1.Coords) (hF : (K (F := F)).Facts) (O : CellTallies nD τ sig (HIx 1)) (W : Waits sig (HIx 1)) (hO : ∀ g, O g none = 0) :
    iprop(levAts (K (F := F)).L (K (F := F)).lev ∗ iprop(emp) ∗ tileIn T X O₀ d (wid L)
        ∗ scopedBufs (thr d L) ∗ scopedSems0 (thr d L) ∗ owes (thr d L) O W)
      ⊢ wp frame (wpE (defs₀ (F := F)) 𝒱₀ (thr d L) none) Set.univ
        (cc1__sc_body (F := F) L xW (Memref.isWhole_whole _) tW (Memref.isWhole_whole _) oW (Memref.isWhole_whole _) s5 (Memref.isWhole_whole _) s6 (Memref.isWhole_whole _) s7 (Memref.isWhole_whole _)
          cc1_scoped0 cc1_scoped1 cc1_scoped2 cc1_scoped3 cc1_scoped4 cc1_scoped5)
        fun _ => iprop(tileOut T X d (wid L) ∗ scopedBufs (thr d L) ∗ scopedSems0 (thr d L)
          ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, Hin, ⟨H5, H6, H7, Hbufs⟩, ⟨Q0, Q1, Q2, Q3, Q4, Q5, Hsems⟩, HO⟩
  iapply ((body_wp d L (T d) (X d) (O₀ d) O W hO).trans (wp_wand frame _ _)) $$ [Hin H5 H6 H7 Q0 Q1 Q2 Q3 Q4 Q5 HO]
  · isplitr; · iexact Hlv
    isplitl [Hin]; · iexact Hin
    isplitl [H5 H6 H7]
    · isplitl [H5]; · iexact H5
      isplitl [H6]; · iexact H6
      iexact H7
    isplitr [HO]
    · isplitl [Q0]; · iexact Q0
      isplitl [Q1]; · iexact Q1
      isplitl [Q2]; · iexact Q2
      isplitl [Q3]; · iexact Q3
      isplitl [Q4]; · iexact Q4
      iexact Q5
    iexact HO
  iintro %_ ⟨Hout, ⟨H5, H6, H7⟩, ⟨Q0, Q1, Q2, Q3, Q4, Q5⟩, HO⟩
  isplitl [Hout]; · iexact Hout
  isplitl [H5 H6 H7 Hbufs]
  · isplitl [H5]; · iexact H5
    isplitl [H6]; · iexact H6
    isplitl [H7]; · iexact H7
    iexact Hbufs
  isplitr [HO]
  · isplitl [Q0]; · iexact Q0
    isplitl [Q1]; · iexact Q1
    isplitl [Q2]; · iexact Q2
    isplitl [Q3]; · iexact Q3
    isplitl [Q4]; · iexact Q4
    isplitl [Q5]; · iexact Q5
    iexact Hsems
  iexact HO

def coordsV (c : Fin (grid1.bound 0)) (s : Fin (grid1.bound 1)) : grid1.Coords :=
  fun | 0 => c | 1 => s | ⟨_ + 2, h⟩ => absurd h (Nat.not_lt.2 (Nat.le_add_left _ _))

/-- A tile's part of the call is the printed body at its grid coordinates. -/
theorem defs₀_vector (c : Fin τ.nSC) (s : Fin τ.nSub) :
    defs₀ (F := F) (.scVector c s) 1 ()
      = SparseCore.onTile hcore1 hsub1 (fun c s => cc1__sc_body (coordsV c s)
          xW (Memref.isWhole_whole _) tW (Memref.isWhole_whole _) oW (Memref.isWhole_whole _)
          s5 (Memref.isWhole_whole _) s6 (Memref.isWhole_whole _) s7 (Memref.isWhole_whole _)
          cc1_scoped0 cc1_scoped1 cc1_scoped2 cc1_scoped3 cc1_scoped4 cc1_scoped5) ⟨⟩ c s := rfl

omit [FloatOps F] in
/-- The waits a task leaves are the call's or of no call. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile runs its task. -/
theorem tileObl (hF : (K (F := F)).Facts) : (K (F := F)).TileObl (D (F := F)) 𝒱 (P T X O₀) v₀ 0 := by
  intro d c i O W hO _ _
  simp only [show (P T X O₀).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body T X O₀ d (coordsV ⟨_, hc.1⟩ ⟨_, hc.2⟩) hF O W hO).trans (wp_mono frame _ _ fun _ => obl_post)

/-- A SparseCore's columns are its tiles'. -/
theorem vecSplit : (K (F := F)).VecSplit' (P T X O₀) 0 := by
  intro d c
  show (bigSep (Finset.univ : Finset (Fin 16)) fun i => tileIn T X O₀ d (2 * i.val + c.val)) ⊢ |={Set.univ}=> iprop(
      (bigSep (Finset.univ : Finset (Fin 16)) fun i => tileIn T X O₀ d (2 * i.val + c.val))
      ∗ ((bigSep (Finset.univ : Finset (Fin 16)) fun i => tileOut T X d (2 * i.val + c.val))
          -∗ (bigSep (Finset.univ : Finset (Fin 16)) fun i => tileOut T X d (2 * i.val + c.val))))
  iintro H; imodintro
  isplitl [H]; · iexact H
  iintro H
  iexact H

/-! ## The arrays as the tiles' columns -/

/-- The tile of a pair of a SparseCore and one of its subcores. -/
abbrev pairW (p : Fin 2 × Fin 16) : ℕ := 2 * p.2.val + p.1.val

theorem pairW_inj {p p' : Fin 2 × Fin 16} (h : p ≠ p') : pairW p ≠ pairW p' := by
  intro e
  have h1 := p.1.isLt; have h2 := p'.1.isLt
  have e' : 2 * p.2.val + p.1.val = 2 * p'.2.val + p'.1.val := e
  exact h (Prod.ext (Fin.ext (by omega)) (Fin.ext (by omega)))

theorem stripX_disjoint : ∀ p ∈ (Finset.univ : Finset (Fin 2 × Fin 16)), ∀ p' ∈ (Finset.univ : Finset (Fin 2 × Fin 16)), p ≠ p' →
    Disjoint (stripX (pairW p)) (stripX (pairW p')) := by
  intro p _ p' _ h
  refine Finset.disjoint_left.mpr fun j h1 h2 => pairW_inj h ?_
  exact (Finset.mem_filter.mp h1).2.symm.trans (Finset.mem_filter.mp h2).2

theorem stripT_disjoint : ∀ p ∈ (Finset.univ : Finset (Fin 2 × Fin 16)), ∀ p' ∈ (Finset.univ : Finset (Fin 2 × Fin 16)), p ≠ p' →
    Disjoint (stripT (pairW p)) (stripT (pairW p')) := by
  intro p _ p' _ h
  refine Finset.disjoint_left.mpr fun j h1 h2 => pairW_inj h ?_
  exact (Finset.mem_filter.mp h1).2.symm.trans (Finset.mem_filter.mp h2).2

theorem stripX_cover : (Finset.univ : Finset (Fin 2 × Fin 16)).biUnion (fun p => stripX (pairW p)) = Finset.univ := by
  refine Finset.eq_univ_of_forall fun j => Finset.mem_biUnion.mpr ?_
  have hj : (j 1).val < 1024 := (j 1).isLt
  refine ⟨(⟨(j 1).val / 32 % 2, by omega⟩, ⟨(j 1).val / 32 / 2, by omega⟩), Finset.mem_univ _, Finset.mem_filter.mpr ⟨Finset.mem_univ _, ?_⟩⟩
  show (j 1).val / 32 = 2 * ((j 1).val / 32 / 2) + (j 1).val / 32 % 2
  omega

theorem stripT_cover : (Finset.univ : Finset (Fin 2 × Fin 16)).biUnion (fun p => stripT (pairW p)) = Finset.univ := by
  refine Finset.eq_univ_of_forall fun j => Finset.mem_biUnion.mpr ?_
  have hj : (j 1).val < 1024 := (j 1).isLt
  refine ⟨(⟨(j 1).val / 32 % 2, by omega⟩, ⟨(j 1).val / 32 / 2, by omega⟩), Finset.mem_univ _, Finset.mem_filter.mpr ⟨Finset.mem_univ _, ?_⟩⟩
  show (j 1).val / 32 = 2 * ((j 1).val / 32 / 2) + (j 1).val / 32 % 2
  omega

omit [FloatOps F] in
theorem x_strips (d : Dev nD) (f : S8192x1024.Idx → F .f32) :
    (xLoc d ↦{fullShare} f : sProp 𝕄) = bigSep Finset.univ fun p : Fin 2 × Fin 16 => xPts d (pairW p) f := by
  rw [← pointsTo_biUnion Finset.univ (ℓ := xLoc d) (fun p => stripX (pairW p)) stripX_disjoint, stripX_cover]; try rfl
omit [FloatOps F] in
theorem o_strips (d : Dev nD) (f : S8192x1024.Idx → F .f32) :
    (oLoc d ↦{fullShare} f : sProp 𝕄) = bigSep Finset.univ fun p : Fin 2 × Fin 16 => oPts d (pairW p) f := by
  rw [← pointsTo_biUnion Finset.univ (ℓ := oLoc d) (fun p => stripX (pairW p)) stripX_disjoint, stripX_cover]; try rfl
omit [FloatOps F] in
theorem t_strips (d : Dev nD) (f : S49x1024.Idx → F .f32) :
    (tLoc d ↦{fullShare} f : sProp 𝕄) = bigSep Finset.univ fun p : Fin 2 × Fin 16 => tPts d (pairW p) f := by
  rw [← pointsTo_biUnion Finset.univ (ℓ := tLoc d) (fun p => stripT (pairW p)) stripT_disjoint, stripT_cover]; try rfl

/-- What the call takes for the two SparseCores: the three arrays whole. -/
theorem st0_eq (d : Dev nD) : (bigSep Finset.univ fun c : Fin ((K (F := F)).nCore 0) => (P T X O₀).st 0 d c)
    = iprop((xLoc d ↦{fullShare} X d) ∗ (tLoc d ↦{fullShare} T d) ∗ oLoc d ↦{fullShare} O₀ d) := by
  rw [x_strips, t_strips, o_strips, ← bigSep_sep', ← bigSep_sep', bigSep_univ_prod]
  rfl

/-- What the call hands back: the result computed. -/
theorem dn0_eq (d : Dev nD) : (bigSep Finset.univ fun c : Fin ((K (F := F)).nCore 0) => (P T X O₀).dn 0 d c)
    = iprop((xLoc d ↦{fullShare} X d) ∗ (tLoc d ↦{fullShare} T d) ∗ oLoc d ↦{fullShare} outVal (T d) (X d)) := by
  rw [x_strips, t_strips, o_strips, ← bigSep_sep', ← bigSep_sep', bigSep_univ_prod]
  rfl

end Launch

end Cert.Proof.KernelIdeal
-- ==== Proof.KernelIdeal.Prep.lean ====
/-
  The TensorCore call that builds the table: it reads the starts and the increments row by row, and stores the 49 rows one
  after another. `prep_wp` gives the table's buffer as a function of the four operands.
-/
module

public import proofs.«01_k».proof.Proof.KernelIdeal.Base
public import proofs.«01_k».proof.Proof.Table

@[expose] public section

noncomputable section

namespace Cert.Proof.KernelIdeal

open Cert.KernelIdeal Cert.KernelIdeal.Gen
open Cert.Proof.Seg

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The staged operands and the call's program as loops over rows -/

abbrev g0 : Memref sig .tc .vmem S1x1024 .f32 := Memref.whole cc0_stg0_0
abbrev g1 : Memref sig .tc .vmem S16x1024 .f32 := Memref.whole cc0_stg1_0
abbrev g2 : Memref sig .tc .vmem S1x1024 .f32 := Memref.whole cc0_stg2_0
abbrev g3 : Memref sig .tc .vmem S16x1024 .f32 := Memref.whole cc0_stg3_0
abbrev g4 : Memref sig .tc .vmem S49x1024 .f32 := Memref.whole cc0_stg4_0

abbrev TProg (F : FTy → Type) : Type 1 := Prog (TpuEff nD τ sig (Elt F) Λ₀ .tc) PUnit

theorem inb16 {r n : ℕ} (h : r + (n + 1) = 16) (a : Fin 2) : (![r, 0] : Fin 2 → ℕ) a + S1x1024.size a ≤ S16x1024.size a := by
  match a with
  | 0 => show r + 1 ≤ 16; omega
  | 1 => show 0 + 1024 ≤ 1024; omega

theorem inb49 (r : Fin 49) (a : Fin 2) : (![r.val, 0] : Fin 2 → ℕ) a + S1x1024.size a ≤ S49x1024.size a := by
  match a with
  | 0 => show r.val + 1 ≤ 49; omega
  | 1 => show 0 + 1024 ≤ 1024; omega

/-- Rows `r, …, 15` of a 16-row operand loaded in order and handed on. -/
def rowsIn (m : Memref sig .tc .vmem S16x1024 .f32) : (n r : ℕ) → r + n = 16 → ((Fin n → Vec F S1x1024 .f32) → TProg F) → TProg F
  | 0, _, _, k => k fun j => j.elim0
  | n + 1, r, h, k => .op (.load m (Rect.unit (s := S16x1024) ![r, 0] S1x1024.size (inb16 h)).toLoadRect (View.loadsAt_vmem h_S1x1024)) fun v =>
      rowsIn m n (r + 1) (by omega) fun vs => k (Fin.cons v vs)

/-- The listed rows of the table stored in order, each after a load of the row it replaces. -/
def rowsOut (m : Memref sig .tc .vmem S49x1024 .f32) : List (Fin 49 × FVec F S1024 .f32) → TProg F
  | [] => .ret ⟨⟩
  | p :: l =>
    .op (.load m (Rect.unit (s := S49x1024) ![p.1.val, 0] S1x1024.size (inb49 p.1)).toLoadRect (View.loadsAt_vmem h_S1x1024)) fun _ =>
    .op (.store m (Rect.unit (s := S49x1024) ![p.1.val, 0] S1x1024.size (inb49 p.1)) (shapeCast S1x1024 p.2 shapeCasts_S1024_S1x1024) Finset.univ (View.stores_vmem_bits_univ h_S1x1024 rfl) (.inl rfl)) fun _ =>
    rowsOut m l

/-- Lane `i` of loaded row `n`. -/
def lane16 (vs : Fin 16 → Vec F S1x1024 .f32) (i : S1024.Idx) (n : ℕ) : F .f32 :=
  shapeCast S1024 (vs (Fin.ofNat 16 n)) shapeCasts_S1x1024_S1024 i

/-- The rows of the table in the order the call stores them. -/
def rowList (x y : FVec F S1024 .f32) (xd yd : S1024.Idx → ℕ → F .f32) : List (Fin 49 × FVec F S1024 .f32) :=
  [(0, fun i => piece (x i) (xd i) 0),
    (1, fun i => piece (x i) (xd i) 1),
    (2, fun i => piece (x i) (xd i) 2),
    (3, fun i => piece (x i) (xd i) 3),
    (4, fun i => piece (x i) (xd i) 4),
    (5, fun i => piece (x i) (xd i) 5),
    (6, fun i => piece (x i) (xd i) 6),
    (7, fun i => piece (x i) (xd i) 7),
    (8, fun i => piece (x i) (xd i) 8),
    (9, fun i => piece (x i) (xd i) 9),
    (10, fun i => piece (x i) (xd i) 10),
    (11, fun i => piece (x i) (xd i) 11),
    (12, fun i => piece (x i) (xd i) 12),
    (13, fun i => piece (x i) (xd i) 13),
    (14, fun i => piece (x i) (xd i) 14),
    (15, fun i => piece (x i) (xd i) 15),
    (16, fun i => piece (x i) (xd i) 16),
    (17, fun i => slope (x i) (xd i) (y i) (yd i) 0),
    (33, fun i => offs (x i) (xd i) (y i) (yd i) 0),
    (18, fun i => slope (x i) (xd i) (y i) (yd i) 1),
    (34, fun i => offs (x i) (xd i) (y i) (yd i) 1),
    (19, fun i => slope (x i) (xd i) (y i) (yd i) 2),
    (35, fun i => offs (x i) (xd i) (y i) (yd i) 2),
    (20, fun i => slope (x i) (xd i) (y i) (yd i) 3),
    (36, fun i => offs (x i) (xd i) (y i) (yd i) 3),
    (21, fun i => slope (x i) (xd i) (y i) (yd i) 4),
    (37, fun i => offs (x i) (xd i) (y i) (yd i) 4),
    (22, fun i => slope (x i) (xd i) (y i) (yd i) 5),
    (38, fun i => offs (x i) (xd i) (y i) (yd i) 5),
    (23, fun i => slope (x i) (xd i) (y i) (yd i) 6),
    (39, fun i => offs (x i) (xd i) (y i) (yd i) 6),
    (24, fun i => slope (x i) (xd i) (y i) (yd i) 7),
    (40, fun i => offs (x i) (xd i) (y i) (yd i) 7),
    (25, fun i => slope (x i) (xd i) (y i) (yd i) 8),
    (41, fun i => offs (x i) (xd i) (y i) (yd i) 8),
    (26, fun i => slope (x i) (xd i) (y i) (yd i) 9),
    (42, fun i => offs (x i) (xd i) (y i) (yd i) 9),
    (27, fun i => slope (x i) (xd i) (y i) (yd i) 10),
    (43, fun i => offs (x i) (xd i) (y i) (yd i) 10),
    (28, fun i => slope (x i) (xd i) (y i) (yd i) 11),
    (44, fun i => offs (x i) (xd i) (y i) (yd i) 11),
    (29, fun i => slope (x i) (xd i) (y i) (yd i) 12),
    (45, fun i => offs (x i) (xd i) (y i) (yd i) 12),
    (30, fun i => slope (x i) (xd i) (y i) (yd i) 13),
    (46, fun i => offs (x i) (xd i) (y i) (yd i) 13),
    (31, fun i => slope (x i) (xd i) (y i) (yd i) 14),
    (47, fun i => offs (x i) (xd i) (y i) (yd i) 14),
    (32, fun i => slope (x i) (xd i) (y i) (yd i) 15),
    (48, fun i => offs (x i) (xd i) (y i) (yd i) 15)]

/-- The call's program: the operands loaded, then the table's rows stored. -/
def prepProg : TProg F :=
  .op (.load g0 (Rect.unit (s := S1x1024) ![0, 0] S1x1024.size inb_S1x1024_S1x1024_0_0).toLoadRect (View.loadsAt_vmem h_S1x1024)) fun x =>
  rowsIn g1 16 0 rfl fun xs =>
  .op (.load g2 (Rect.unit (s := S1x1024) ![0, 0] S1x1024.size inb_S1x1024_S1x1024_0_0).toLoadRect (View.loadsAt_vmem h_S1x1024)) fun y =>
  rowsIn g3 16 0 rfl fun ys =>
  rowsOut g4 (rowList (shapeCast S1024 x shapeCasts_S1x1024_S1024) (shapeCast S1024 y shapeCasts_S1x1024_S1024) (lane16 xs) (lane16 ys))

set_option maxRecDepth 65536 in
set_option maxHeartbeats 4000000 in
/-- The call's body is that program: by definitional unfolding. -/
theorem prep_eq (h0 : g0.IsWhole) (h1 : g1.IsWhole) (h2 : g2.IsWhole) (h3 : g3.IsWhole) (h4 : g4.IsWhole) :
    cc0__prep_body (F := F) g0 h0 g1 h1 g2 h2 g3 h3 g4 h4 = prepProg := rfl

end Cert.Proof.KernelIdeal
-- ==== Proof.KernelIdeal.PrepWp.lean ====
/-
  What the table's call leaves in the staged table: `prep_wp` runs the call from the four staged operands and ends with the
  table's buffer holding `tblVal` of them.
-/
module

public import proofs.«01_k».proof.Proof.KernelIdeal.Base
public import proofs.«01_k».proof.Proof.KernelIdeal.Prep

@[expose] public section

noncomputable section

namespace Cert.Proof.KernelIdeal

open Cert.KernelIdeal Cert.KernelIdeal.Gen
open Cert.Proof.Seg

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The table as a function of the starts and the increments. -/
def tblVal (X : S1x1024.Idx → F .f32) (XD : S16x1024.Idx → F .f32) (Y : S1x1024.Idx → F .f32) (YD : S16x1024.Idx → F .f32) : S49x1024.Idx → F .f32 :=
  fun j => colVal (X (ix2 0 (j 1))) (fun n => XD (ix2 (Fin.ofNat 16 n) (j 1))) (Y (ix2 0 (j 1))) (fun n => YD (ix2 (Fin.ofNat 16 n) (j 1))) (j 0)

/-! ## What the loops do to the staged buffers -/

/-- Row `r` of a 16-row operand, lane by lane. -/
theorem rd16 (m : Memref sig .tc .vmem S16x1024 .f32) (f : m.view.ty.Contents (Elt F)) {r n : ℕ} (h : r + (n + 1) = 16) (i : S1024.Idx) :
    shapeCast S1024 (m.view.readAt (Elt F) (Rect.unit (s := S16x1024) ![r, 0] S1x1024.size (inb16 h)).toLoadRect f) shapeCasts_S1x1024_S1024 i
      = m.view.read (Elt F) f (ix2 ⟨r, by omega⟩ (i 0)) := by
  refine (shapeCast_dropUnit_apply ![1024] _ _ i).trans ?_
  rw [View.readAt_apply]
  congr 1
  funext a
  apply Fin.ext
  rw [LoadRect.idx_apply]
  match a with
  | 0 => show r + 1 * 0 = r; omega
  | 1 => show 0 + 1 * (i 0).val = (i 0).val; omega

/-- The single row of an operand, lane by lane. -/
theorem rd1 (m : Memref sig .tc .vmem S1x1024 .f32) (f : m.view.ty.Contents (Elt F)) (h : ∀ a, (![0, 0] : Fin 2 → ℕ) a + S1x1024.size a ≤ S1x1024.size a) (i : S1024.Idx) :
    shapeCast S1024 (m.view.readAt (Elt F) (Rect.unit (s := S1x1024) ![0, 0] S1x1024.size h).toLoadRect f) shapeCasts_S1x1024_S1024 i
      = m.view.read (Elt F) f (ix2 0 (i 0)) := by
  refine (shapeCast_dropUnit_apply ![1024] _ _ i).trans ?_
  rw [View.readAt_apply]
  congr 1
  funext a
  apply Fin.ext
  rw [LoadRect.idx_apply]
  match a with
  | 0 => rfl
  | 1 => show 0 + 1 * (i 0).val = (i 0).val; omega

/-- One row of the table replaced. -/
def putRow (f : S49x1024.Idx → F .f32) (p : Fin 49 × FVec F S1024 .f32) : S49x1024.Idx → F .f32 :=
  fun j => if (j 0).val = p.1.val then p.2 (ix1 (j 1)) else f j

/-- Storing a row of the staged table replaces that row. -/
theorem write_row (f : S49x1024.Idx → F .f32) (p : Fin 49 × FVec F S1024 .f32) :
    ((g4 : Memref sig .tc .vmem S49x1024 .f32).access (Rect.unit (s := S49x1024) ![p.1.val, 0] S1x1024.size (inb49 p.1))).write (Elt F) f
      (shapeCast S1x1024 p.2 shapeCasts_S1024_S1x1024) Finset.univ = putRow f p := by
  funext j
  unfold putRow
  by_cases hk : (j 0).val = p.1.val
  · rw [if_pos hk]
    have ej : ((g4 : Memref sig .tc .vmem S49x1024 .f32).access (Rect.unit (s := S49x1024) ![p.1.val, 0] S1x1024.size (inb49 p.1))).emb (ix2 (0 : Fin 1) (j 1 : Fin 1024)) = j := by
      funext a
      apply Fin.ext
      match a with
      | 0 => show p.1.val + 1 * 0 = (j 0).val; omega
      | 1 => show 0 + 1 * (j 1).val = (j 1).val; omega
    have hw' := View.write_emb_of_mem (Val := Elt F) (v := (g4 : Memref sig .tc .vmem S49x1024 .f32).access (Rect.unit (s := S49x1024) ![p.1.val, 0] S1x1024.size (inb49 p.1)))
      f (shapeCast S1x1024 p.2 shapeCasts_S1024_S1x1024) (M := Finset.univ) (x := (ix2 (0 : Fin 1) (j 1 : Fin 1024))) (Finset.mem_univ _)
    rw [ej] at hw'
    refine hw'.trans ?_
    refine (shapeCast_addUnit_apply ![1024] _ _ (ix2 (0 : Fin 1) (j 1 : Fin 1024))).trans ?_
    congr 1
    funext a
    match a with
    | 0 => rfl
  · rw [if_neg hk]
    refine View.write_of_not_mem (Val := Elt F) (v := (g4 : Memref sig .tc .vmem S49x1024 .f32).access (Rect.unit (s := S49x1024) ![p.1.val, 0] S1x1024.size (inb49 p.1)))
      f (shapeCast S1x1024 p.2 shapeCasts_S1024_S1x1024) Finset.univ fun hm => ?_
    obtain ⟨x, -, ex⟩ := Finset.mem_map.mp hm
    have e0 : p.1.val + 1 * (x 0).val = (j 0).val := congrArg (fun y : S49x1024.Idx => (y 0).val) ex
    have : (x 0).val < 1 := (x 0).isLt
    omega

/-- A row that the list does not name is not touched. -/
theorem put_of_not_mem (l : List (Fin 49 × FVec F S1024 .f32)) (f : S49x1024.Idx → F .f32) (j : S49x1024.Idx) (r : Fin 49) (hr : r.val = (j 0).val) (h : r ∉ l.map Prod.fst) :
    l.foldl putRow f j = f j := by
  induction l generalizing f with
  | nil => rfl
  | cons p l ih =>
    rw [List.map_cons, List.mem_cons, not_or] at h
    rw [List.foldl_cons, ih _ h.2]
    unfold putRow
    rw [if_neg fun e => h.1 (Fin.ext (hr.trans e))]

/-- A row that the list names once holds what the list stores there. -/
theorem put_of_mem (l : List (Fin 49 × FVec F S1024 .f32)) (f : S49x1024.Idx → F .f32) (j : S49x1024.Idx) (hn : (l.map Prod.fst).Nodup)
    (r : Fin 49) (hr : r.val = (j 0).val) (v : FVec F S1024 .f32) (h : (r, v) ∈ l) : l.foldl putRow f j = v (ix1 (j 1)) := by
  induction l generalizing f with
  | nil => exact absurd h List.not_mem_nil
  | cons p l ih =>
    rw [List.map_cons, List.nodup_cons] at hn
    rw [List.foldl_cons]
    rcases List.mem_cons.mp h with h | h
    · subst h
      rw [put_of_not_mem l _ j r hr hn.1]
      unfold putRow
      rw [if_pos hr.symm]
    · exact ih _ hn.2 h

theorem rowList_length (x y : FVec F S1024 .f32) (xd yd : S1024.Idx → ℕ → F .f32) : (rowList x y xd yd).length = 49 := rfl

set_option maxRecDepth 65536 in
/-- Each row of the table is in the list. -/
theorem mem_rowList (x y : FVec F S1024 .f32) (xd yd : S1024.Idx → ℕ → F .f32) (r : Fin 49) :
    (r, fun i => colVal (x i) (xd i) (y i) (yd i) r) ∈ rowList x y xd yd := by
  exact match r with
  | 0 => List.mem_of_getElem (i := 0) (h := by rw [rowList_length]; decide) rfl
  | 1 => List.mem_of_getElem (i := 1) (h := by rw [rowList_length]; decide) rfl
  | 2 => List.mem_of_getElem (i := 2) (h := by rw [rowList_length]; decide) rfl
  | 3 => List.mem_of_getElem (i := 3) (h := by rw [rowList_length]; decide) rfl
  | 4 => List.mem_of_getElem (i := 4) (h := by rw [rowList_length]; decide) rfl
  | 5 => List.mem_of_getElem (i := 5) (h := by rw [rowList_length]; decide) rfl
  | 6 => List.mem_of_getElem (i := 6) (h := by rw [rowList_length]; decide) rfl
  | 7 => List.mem_of_getElem (i := 7) (h := by rw [rowList_length]; decide) rfl
  | 8 => List.mem_of_getElem (i := 8) (h := by rw [rowList_length]; decide) rfl
  | 9 => List.mem_of_getElem (i := 9) (h := by rw [rowList_length]; decide) rfl
  | 10 => List.mem_of_getElem (i := 10) (h := by rw [rowList_length]; decide) rfl
  | 11 => List.mem_of_getElem (i := 11) (h := by rw [rowList_length]; decide) rfl
  | 12 => List.mem_of_getElem (i := 12) (h := by rw [rowList_length]; decide) rfl
  | 13 => List.mem_of_getElem (i := 13) (h := by rw [rowList_length]; decide) rfl
  | 14 => List.mem_of_getElem (i := 14) (h := by rw [rowList_length]; decide) rfl
  | 15 => List.mem_of_getElem (i := 15) (h := by rw [rowList_length]; decide) rfl
  | 16 => List.mem_of_getElem (i := 16) (h := by rw [rowList_length]; decide) rfl
  | 17 => List.mem_of_getElem (i := 17) (h := by rw [rowList_length]; decide) rfl
  | 18 => List.mem_of_getElem (i := 19) (h := by rw [rowList_length]; decide) rfl
  | 19 => List.mem_of_getElem (i := 21) (h := by rw [rowList_length]; decide) rfl
  | 20 => List.mem_of_getElem (i := 23) (h := by rw [rowList_length]; decide) rfl
  | 21 => List.mem_of_getElem (i := 25) (h := by rw [rowList_length]; decide) rfl
  | 22 => List.mem_of_getElem (i := 27) (h := by rw [rowList_length]; decide) rfl
  | 23 => List.mem_of_getElem (i := 29) (h := by rw [rowList_length]; decide) rfl
  | 24 => List.mem_of_getElem (i := 31) (h := by rw [rowList_length]; decide) rfl
  | 25 => List.mem_of_getElem (i := 33) (h := by rw [rowList_length]; decide) rfl
  | 26 => List.mem_of_getElem (i := 35) (h := by rw [rowList_length]; decide) rfl
  | 27 => List.mem_of_getElem (i := 37) (h := by rw [rowList_length]; decide) rfl
  | 28 => List.mem_of_getElem (i := 39) (h := by rw [rowList_length]; decide) rfl
  | 29 => List.mem_of_getElem (i := 41) (h := by rw [rowList_length]; decide) rfl
  | 30 => List.mem_of_getElem (i := 43) (h := by rw [rowList_length]; decide) rfl
  | 31 => List.mem_of_getElem (i := 45) (h := by rw [rowList_length]; decide) rfl
  | 32 => List.mem_of_getElem (i := 47) (h := by rw [rowList_length]; decide) rfl
  | 33 => List.mem_of_getElem (i := 18) (h := by rw [rowList_length]; decide) rfl
  | 34 => List.mem_of_getElem (i := 20) (h := by rw [rowList_length]; decide) rfl
  | 35 => List.mem_of_getElem (i := 22) (h := by rw [rowList_length]; decide) rfl
  | 36 => List.mem_of_getElem (i := 24) (h := by rw [rowList_length]; decide) rfl
  | 37 => List.mem_of_getElem (i := 26) (h := by rw [rowList_length]; decide) rfl
  | 38 => List.mem_of_getElem (i := 28) (h := by rw [rowList_length]; decide) rfl
  | 39 => List.mem_of_getElem (i := 30) (h := by rw [rowList_length]; decide) rfl
  | 40 => List.mem_of_getElem (i := 32) (h := by rw [rowList_length]; decide) rfl
  | 41 => List.mem_of_getElem (i := 34) (h := by rw [rowList_length]; decide) rfl
  | 42 => List.mem_of_getElem (i := 36) (h := by rw [rowList_length]; decide) rfl
  | 43 => List.mem_of_getElem (i := 38) (h := by rw [rowList_length]; decide) rfl
  | 44 => List.mem_of_getElem (i := 40) (h := by rw [rowList_length]; decide) rfl
  | 45 => List.mem_of_getElem (i := 42) (h := by rw [rowList_length]; decide) rfl
  | 46 => List.mem_of_getElem (i := 44) (h := by rw [rowList_length]; decide) rfl
  | 47 => List.mem_of_getElem (i := 46) (h := by rw [rowList_length]; decide) rfl
  | 48 => List.mem_of_getElem (i := 48) (h := by rw [rowList_length]; decide) rfl
  | ⟨n + 49, h⟩ => absurd h (by omega)

set_option maxRecDepth 65536 in
theorem rowList_nodup (x y : FVec F S1024 .f32) (xd yd : S1024.Idx → ℕ → F .f32) : ((rowList x y xd yd).map Prod.fst).Nodup := by
  have e : (rowList x y xd yd).map Prod.fst = [0, 1, 2, 3, 4, 5, 6, 7, 8, 9, 10, 11, 12, 13, 14, 15, 16, 17, 33, 18, 34, 19, 35, 20, 36, 21, 37, 22, 38, 23, 39, 24, 40, 25, 41, 26, 42, 27, 43, 28, 44, 29, 45, 30, 46, 31, 47, 32, 48] := rfl
  rw [e]
  decide

/-- All the rows stored, whatever the table held before. -/
theorem put_rowList (X : S1x1024.Idx → F .f32) (XD : S16x1024.Idx → F .f32) (Y : S1x1024.Idx → F .f32) (YD : S16x1024.Idx → F .f32) (x y : FVec F S1024 .f32)
    (xd yd : S1024.Idx → ℕ → F .f32) (hx : ∀ i, x i = X (ix2 0 (i 0))) (hy : ∀ i, y i = Y (ix2 0 (i 0))) (hxd : ∀ i n, xd i n = XD (ix2 (Fin.ofNat 16 n) (i 0)))
    (hyd : ∀ i n, yd i n = YD (ix2 (Fin.ofNat 16 n) (i 0))) (f : S49x1024.Idx → F .f32) :
    (rowList x y xd yd).foldl putRow f = tblVal X XD Y YD := by
  funext j
  rw [put_of_mem _ f j (rowList_nodup x y xd yd) (j 0) rfl _ (mem_rowList x y xd yd (j 0))]
  unfold tblVal
  rw [hx, hy, funext (hxd (ix1 (j 1))), funext (hyd (ix1 (j 1)))]
  rfl

section WP

variable (d : Dev nD)

abbrev pg0 (A : S1x1024.Idx → F .f32) : sProp 𝕄 := (g0 : Memref sig .tc .vmem S1x1024 .f32).view.loc (SparseCore.T d) ↦{fullShare} A
abbrev pg1 (A : S16x1024.Idx → F .f32) : sProp 𝕄 := (g1 : Memref sig .tc .vmem S16x1024 .f32).view.loc (SparseCore.T d) ↦{fullShare} A
abbrev pg2 (A : S1x1024.Idx → F .f32) : sProp 𝕄 := (g2 : Memref sig .tc .vmem S1x1024 .f32).view.loc (SparseCore.T d) ↦{fullShare} A
abbrev pg3 (A : S16x1024.Idx → F .f32) : sProp 𝕄 := (g3 : Memref sig .tc .vmem S16x1024 .f32).view.loc (SparseCore.T d) ↦{fullShare} A
abbrev pg4 (A : S49x1024.Idx → F .f32) : sProp 𝕄 := (g4 : Memref sig .tc .vmem S49x1024 .f32).view.loc (SparseCore.T d) ↦{fullShare} A

/-- Loading rows `r, …, 15` of an operand hands on rows that read, lane by lane, as the operand's. -/
theorem rowsIn_wp (m : Memref sig .tc .vmem S16x1024 .f32) (f : Buf (Elt F) (m.view.loc (SparseCore.T d))) (Q : PUnit → sProp 𝕄) (n : ℕ) :
    ∀ (r : ℕ) (h : r + n = 16) (k : (Fin n → Vec F S1x1024 .f32) → TProg F),
    (m.view.loc (SparseCore.T d) ↦{fullShare} f) ∗ iprop(∀ vs : Fin n → Vec F S1x1024 .f32,
      ⌜∀ (j : Fin n) (i : S1024.Idx), shapeCast S1024 (vs j) shapeCasts_S1x1024_S1024 i = m.view.read (Elt F) f (ix2 ⟨r + j.val, by omega⟩ (i 0))⌝ -∗
      (m.view.loc (SparseCore.T d) ↦{fullShare} f) -∗ wp frame (wpE (defs₀ (F := F)) 𝒱₀ (SparseCore.T d) none) Set.univ (k vs) Q)
    ⊢ wp frame (wpE (defs₀ (F := F)) 𝒱₀ (SparseCore.T d) none) Set.univ (rowsIn m n r h k) Q := by
  induction n with
  | zero =>
    intro r h k
    unfold rowsIn
    iintro ⟨H, Hk⟩
    iapply Hk $$ %(fun j => j.elim0) [] H
    ipureintro
    exact fun j => j.elim0
  | succ n ih =>
    intro r h k
    unfold rowsIn
    iintro ⟨H, Hk⟩
    iapply (wp_load 𝒱₀ (SparseCore.T d) none Set.univ (m := m) (S := Finset.univ) (Finset.subset_univ _)) $$ H; iintro H
    iapply (ih (r + 1) _ _)
    isplitl [H]; · iexact H
    iintro %vs %hvs H
    iapply Hk $$ %(Fin.cons _ vs) [] H
    ipureintro
    intro j i
    refine Fin.cases ?_ (fun j => ?_) j
    · exact rd16 m f h i
    · refine (hvs j i).trans ?_
      have e : (⟨r + 1 + j.val, by omega⟩ : Fin 16) = ⟨r + j.succ.val, by have := j.succ.isLt; omega⟩ := Fin.ext (by show r + 1 + j.val = r + (j.val + 1); omega)
      rw [e]

/-- Storing the listed rows leaves the table with those rows replaced. -/
theorem rowsOut_wp (Q : PUnit → sProp 𝕄) (l : List (Fin 49 × FVec F S1024 .f32)) : ∀ f : S49x1024.Idx → F .f32,
    pg4 d f ∗ iprop(pg4 d (l.foldl putRow f) -∗ Q ⟨⟩)
    ⊢ wp frame (wpE (defs₀ (F := F)) 𝒱₀ (SparseCore.T d) none) Set.univ (rowsOut g4 l) Q := by
  induction l with
  | nil =>
    intro f
    unfold rowsOut
    iintro ⟨H, Hk⟩
    rw [wp_ret]
    imodintro
    rw [List.foldl_nil]
    iapply Hk $$ H
  | cons p l ih =>
    intro f
    unfold rowsOut
    iintro ⟨H, Hk⟩
    iapply (wp_load 𝒱₀ (SparseCore.T d) none Set.univ (m := (g4 : Memref sig .tc .vmem S49x1024 .f32)) (S := Finset.univ) (Finset.subset_univ _)) $$ H; iintro H
    iapply (wp_store 𝒱₀ (SparseCore.T d) none Set.univ (m := (g4 : Memref sig .tc .vmem S49x1024 .f32)) (r := (Rect.unit (s := S49x1024) ![p.1.val, 0] S1x1024.size (inb49 p.1))) (Mk := Finset.univ) (S := Finset.univ) (Finset.subset_univ _)) $$ H; iintro H
    rw [write_row f p]
    iapply (ih (putRow f p))
    isplitl [H]; · iexact H
    iexact Hk

/-- The call from its staged operands: the table's buffer ends as `tblVal` of them, the operands as they were. -/
theorem prep_wp (h0 : g0.IsWhole) (h1 : g1.IsWhole) (h2 : g2.IsWhole) (h3 : g3.IsWhole) (h4 : g4.IsWhole)
    (X : S1x1024.Idx → F .f32) (XD : S16x1024.Idx → F .f32) (Y : S1x1024.Idx → F .f32) (YD : S16x1024.Idx → F .f32) (f : S49x1024.Idx → F .f32) (Q : PUnit → sProp 𝕄) :
    pg0 d X ∗ pg1 d XD ∗ pg2 d Y ∗ pg3 d YD ∗ pg4 d f ∗ iprop(pg0 d X -∗ pg1 d XD -∗ pg2 d Y -∗ pg3 d YD -∗ pg4 d (tblVal X XD Y YD) -∗ Q ⟨⟩)
    ⊢ wp frame (wpE (defs₀ (F := F)) 𝒱₀ (SparseCore.T d) none) Set.univ (cc0__prep_body (F := F) g0 h0 g1 h1 g2 h2 g3 h3 g4 h4) Q := by
  rw [prep_eq]
  unfold prepProg
  iintro ⟨H0, H1, H2, H3, H4, Hk⟩
  iapply (wp_load 𝒱₀ (SparseCore.T d) none Set.univ (m := (g0 : Memref sig .tc .vmem S1x1024 .f32)) (S := Finset.univ) (Finset.subset_univ _)) $$ H0; iintro H0
  iapply (rowsIn_wp d g1 XD _ 16 0 rfl _)
  isplitl [H1]; · iexact H1
  iintro %xs %hxs H1
  iapply (wp_load 𝒱₀ (SparseCore.T d) none Set.univ (m := (g2 : Memref sig .tc .vmem S1x1024 .f32)) (S := Finset.univ) (Finset.subset_univ _)) $$ H2; iintro H2
  iapply (rowsIn_wp d g3 YD _ 16 0 rfl _)
  isplitl [H3]; · iexact H3
  iintro %ys %hys H3
  iapply (rowsOut_wp d _ _ f)
  isplitl [H4]; · iexact H4
  have e := put_rowList X XD Y YD
    (shapeCast S1024 (g0.view.readAt (Elt F) (Rect.unit (s := S1x1024) ![0, 0] S1x1024.size inb_S1x1024_S1x1024_0_0).toLoadRect X) shapeCasts_S1x1024_S1024)
    (shapeCast S1024 (g2.view.readAt (Elt F) (Rect.unit (s := S1x1024) ![0, 0] S1x1024.size inb_S1x1024_S1x1024_0_0).toLoadRect Y) shapeCasts_S1x1024_S1024)
    (lane16 xs) (lane16 ys) (fun i => rd1 g0 X _ i) (fun i => rd1 g2 Y _ i)
    (fun i n => (hxs (Fin.ofNat 16 n) i).trans (congrArg (fun r => XD (ix2 r (i 0))) (Fin.ext (Nat.zero_add _))))
    (fun i n => (hys (Fin.ofNat 16 n) i).trans (congrArg (fun r => YD (ix2 r (i 0))) (Fin.ext (Nat.zero_add _)))) f
  iintro H4
  iapply Hk $$ H0 H1 H2 H3
  rw [← e]
  iexact H4

end WP

end Cert.Proof.KernelIdeal
-- ==== Proof.KernelIdeal.Region.lean ====
/-
  The TensorCore call of @main: one grid point over five whole-array windows. The four inputs are read as they are and the
  fifth window's array is left with the table of them.
-/
module

public import proofs.«01_k».proof.Proof.KernelIdeal.PrepWp
public import Idealize.ShloMosaic.Lib.Pipeline.Regions
public import Idealize.ShloMosaic.Lib.Pipeline.RegionsLoop
public import Idealize.ShloMosaic.Lib.Pipeline.ValueKit.Geometry

@[expose] public section

noncomputable section

namespace Cert.Proof.KernelIdeal

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The buffers of each device's TensorCore when the region is entered. -/
abbrev Vals (F : FTy → Type) : Type := (c : Dev nD) → (b : Ref sig .tc) → Buf (Elt F) ((c : Thread nD τ).loc b)

variable (A : Vals F)

/-- The table of the region's four inputs. -/
def tblOf (c : Dev nD) : S49x1024.Idx → F .f32 := tblVal (A c main_v1) (A c main_v5) (A c main_v3) (A c main_v7)

/-- The buffers when the region is left: the table written, the others as they were. -/
def endVals (c : Dev nD) (b : Ref sig .tc) : Buf (Elt F) ((c : Thread nD τ).loc b) :=
  Function.update (A c) main_v8 (tblOf A c) b

theorem endVals_tbl (c : Dev nD) : endVals A c main_v8 = tblOf A c := Function.update_self _ _ _
theorem endVals_of_ne (c : Dev nD) (b : Ref sig .tc) (h : b ≠ main_v8) : endVals A c b = A c b := Function.update_of_ne h _ _

/-- Each window's staging contents after the body. -/
def afterOf (c : Dev nD) : (w : Fin cfg0.W) → (cfg0.win w).block.Idx → Elt F (cfg0.win w).elt
  | ⟨0, _⟩ => A c main_v1
  | ⟨1, _⟩ => A c main_v5
  | ⟨2, _⟩ => A c main_v3
  | ⟨3, _⟩ => A c main_v7
  | ⟨4, _⟩ => tblOf A c
  | ⟨n + 5, h⟩ => absurd h (Nat.not_lt.2 (Nat.le_add_left _ _))

/-- The proof data on core `c`: the arrays at their entry contents; the staging buffers after the body; the start signals
    of the SparseCore call still owed; no wait recorded above the lowest level. -/
def dats (_ : Fin 1) (c : Dev nD) : Dat τ (Elt F) (HIx 1) ℕ UU ℕ cfg0 c where
  A w := A c (Pipeline.arrRef spec0 w)
  after w _ := afterOf A c w
  Φ _ := iprop(emp)
  q _ := fullShare
  owed _ := (K (F := F)).Otc c 0
  recorded _ := {p | (K (F := F)).lev ((c : Thread nD τ), p.1) p.2 ≤ 0}

theorem A_eq (c : Dev nD) (w : Fin cfg0.W) : (dats A 0 c).A w = A c (Pipeline.arrRef spec0 w) := by
  dsimp only [dats]

/-- A window's one block is its array. -/
theorem read0 (c : Dev nD) (f : S1x1024.Idx → F .f32) : ((cfg0.win 0).blk t0_0).view.read (Elt F) (show Buf (Elt F) ((c : Thread nD τ).loc main_v1) from f) = f := by
  funext j; blk_simp; refine congrArg f (funext fun a => Fin.ext ?_); exact Pipeline.Window.rect_emb_val_of_index_zero (cfg0.win 0) t0_0 a (by revert a; decide) j
theorem read1 (c : Dev nD) (f : S16x1024.Idx → F .f32) : ((cfg0.win 1).blk t0_0).view.read (Elt F) (show Buf (Elt F) ((c : Thread nD τ).loc main_v5) from f) = f := by
  funext j; blk_simp; refine congrArg f (funext fun a => Fin.ext ?_); exact Pipeline.Window.rect_emb_val_of_index_zero (cfg0.win 1) t0_0 a (by revert a; decide) j
theorem read2 (c : Dev nD) (f : S1x1024.Idx → F .f32) : ((cfg0.win 2).blk t0_0).view.read (Elt F) (show Buf (Elt F) ((c : Thread nD τ).loc main_v3) from f) = f := by
  funext j; blk_simp; refine congrArg f (funext fun a => Fin.ext ?_); exact Pipeline.Window.rect_emb_val_of_index_zero (cfg0.win 2) t0_0 a (by revert a; decide) j
theorem read3 (c : Dev nD) (f : S16x1024.Idx → F .f32) : ((cfg0.win 3).blk t0_0).view.read (Elt F) (show Buf (Elt F) ((c : Thread nD τ).loc main_v7) from f) = f := by
  funext j; blk_simp; refine congrArg f (funext fun a => Fin.ext ?_); exact Pipeline.Window.rect_emb_val_of_index_zero (cfg0.win 3) t0_0 a (by revert a; decide) j

theorem before0 (c : Dev nD) (d) : (dats A 0 c).before 0 t0_0 d = A c main_v1 := by
  unfold Dat.before; rw [if_pos (by decide)]; exact read0 c (A c main_v1)
theorem before1 (c : Dev nD) (d) : (dats A 0 c).before 1 t0_0 d = A c main_v5 := by
  unfold Dat.before; rw [if_pos (by decide)]; exact read1 c (A c main_v5)
theorem before2 (c : Dev nD) (d) : (dats A 0 c).before 2 t0_0 d = A c main_v3 := by
  unfold Dat.before; rw [if_pos (by decide)]; exact read2 c (A c main_v3)
theorem before3 (c : Dev nD) (d) : (dats A 0 c).before 3 t0_0 d = A c main_v7 := by
  unfold Dat.before; rw [if_pos (by decide)]; exact read3 c (A c main_v7)

/-- The body at the one grid point: the staged inputs read, the table left in the fifth staging buffer. -/
theorem body_obligation (c : Dev nD) : BodyObligation (dats A 0 c) (defs₀ (F := F)) 𝒱₀ none Set.univ := fun t => by
  obtain rfl := fin_N0 t
  rw [bigSep_W0, bigSep_W0]
  simp only [owns_whole_eq]
  rw [show (dats A 0 c).Φ t0_0.castSucc = iprop(emp) from rfl, show (dats A 0 c).Φ t0_0.succ = iprop(emp) from rfl]
  unfold Dat.owesAt Pipeline.owesWithin
  rw [show (dats A 0 c).owed t0_0.castSucc = (K (F := F)).Otc c 0 from rfl, show (dats A 0 c).owed t0_0.succ = (K (F := F)).Otc c 0 from rfl]
  iintro ⟨-, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩⟩
  rw [before0] at hf0; rw [before1] at hf1; rw [before2] at hf2; rw [before3] at hf3
  subst hf0 hf1 hf2 hf3
  iapply (prep_wp c (hstage0_0 0) (hstage0_1 0) (hstage0_2 0) (hstage0_3 0) (hstage0_4 0) (A c main_v1) (A c main_v5) (A c main_v3) (A c main_v7) f4 _)
  isplitl [H0]; · iexact H0
  isplitl [H1]; · iexact H1
  isplitl [H2]; · iexact H2
  isplitl [H3]; · iexact H3
  isplitl [H4]; · iexact H4
  iintro H0 H1 H2 H3 H4
  isplitr; · iempintro
  isplitl [HO]
  · iexists W; isplitr; · ipureintro; exact hW
    iexact HO
  isplitl [H0]; · iexists _; isplitr; swap; (· iexact H0); ipureintro; dsimp only [dats]; rfl
  isplitl [H1]; · iexists _; isplitr; swap; (· iexact H1); ipureintro; dsimp only [dats]; rfl
  isplitl [H2]; · iexists _; isplitr; swap; (· iexact H2); ipureintro; dsimp only [dats]; rfl
  isplitl [H3]; · iexists _; isplitr; swap; (· iexact H3); ipureintro; dsimp only [dats]; rfl
  iexists _; isplitr; swap; (· iexact H4); ipureintro; dsimp only [dats]; rfl

/-- The arrays after the call: the inputs as they were, the result the table. -/
theorem arrAt_end (c : Dev nD) : ∀ w : Fin cfg0.W, (dats A 0 c).arrAt w cfg0.N = endVals A c (Pipeline.arrRef spec0 w)
  | ⟨0, _⟩ => ((dats A 0 c).arrAt_in 0 rfl _).trans ((A_eq A c 0).trans (endVals_of_ne A c main_v1 (by decide)).symm)
  | ⟨1, _⟩ => ((dats A 0 c).arrAt_in 1 rfl _).trans ((A_eq A c 1).trans (endVals_of_ne A c main_v5 (by decide)).symm)
  | ⟨2, _⟩ => ((dats A 0 c).arrAt_in 2 rfl _).trans ((A_eq A c 2).trans (endVals_of_ne A c main_v3 (by decide)).symm)
  | ⟨3, _⟩ => ((dats A 0 c).arrAt_in 3 rfl _).trans ((A_eq A c 3).trans (endVals_of_ne A c main_v7 (by decide)).symm)
  | ⟨4, _⟩ => ((dats A 0 c).arrAt_eq_of_after_last 4 t0_0 (by decide +kernel) (tblOf A c) (fun j => rfl)).trans (endVals_tbl A c).symm
  | ⟨n + 5, h⟩ => absurd h (Nat.not_lt.2 (Nat.le_add_left _ _))

/-- The prefetched tables' admissible contents: no table. -/
abbrev adm : (p : Fin 1) → (pcfgs (F := F) p).Adm := fun p => (cfgs p).toPCfg_adm

/-- The kernel has no semaphores of its own. -/
def osem : Fin 0 → SemLoc sig := fun k => k.elim0
theorem ownSemFacts : Pipeline.OwnSemFacts spec0 osem := by decide

/-- Nothing is owed at the lowest level. -/
theorem Otc_none (c : Dev nD) (g : GSem nD τ sig) : (K (F := F)).Otc (N := 1) c 0 g none = 0 := by
  by_contra h
  have := (K (F := F)).lev_of_Otc_pos (Nat.pos_of_ne_zero h)
  rw [SparseCore.Cfg.lev_none] at this; omega

/-- What rides beside the buffers: the start signals owed, no wait recorded above the lowest level. -/
abbrev owesSt (c : Dev nD) : sProp 𝕄 :=
  iprop(∃ W, ⌜(K (F := F)).WBelow (c : Thread nD τ) W 0⌝ ∗ owes (c : Thread nD τ) ((K (F := F)).Otc c 0) W)

set_option backward.isDefEq.respectTransparency.types false in
/-- The region: from the unscoped buffers at `A` to the same with the table written. -/
def reg0 : Pipeline.RegionSeg (pcfgs (F := F)) adm (dats A) none defs₀ 𝒱₀ (K (F := F)).L (K (F := F)).lev 0 where
  win := launch0.win.to₀
  block_pos := launch0.block_pos
  stage_whole := launch0.stage_whole
  K := Fin 0
  osem := osem
  ho := ownSemFacts
  hbody c := (body_obligation A c).loose
  hwaits c := Pipeline.cellsWaits_intro _ _ _ _ c fun w s t => (K (F := F)).mayWait_none _ (Otc_none c)
  pre c := iprop(unscopedBufs c (A c) ∗ owesSt c)
  post c := iprop(unscopedBufs c (endVals A c) ∗ owesSt c)
  X c := iprop(emp)
  Y c := iprop(emp)
  Z c := Pipeline.unscopedRest (Ix := HIx 1) (Name := ℕ) (U := UU) (Lvl := ℕ) spec0 c (A c)
  hentry c := by
    have hsplit := (Pipeline.arrays_of_unscopedBufs (pcfgs (F := F)) adm (dats A) launch0.win launch0.arr_whole c
      ((dats A 0 c).share_full fun _ => rfl) (A c) (A_eq A c))
    iintro ⟨⟨Hub, HO⟩, Hos, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hr
  hin c := by
    rw [show (dats A 0 c).Φ 0 = iprop(emp) from rfl]
    iintro -
    iempintro
  hout c := by
    rw [show (dats A 0 c).Φ (Fin.last cfg0.N) = iprop(emp) from rfl]
    rw [show (Pipeline.scopedRest (Ix := HIx 1) (Name := ℕ) (U := UU) (Lvl := ℕ) (Val := Elt F) (Pipeline.pin (pcfgs (F := F)) adm 0).spec c : sProp 𝕄) = iprop(emp) from scopedRest0_eq c]
    iintro -
    isplitr; · iempintro
    isplitr; · unfold Pipeline.ownSems0; rw [show (Finset.univ : Finset (Fin 0)) = ∅ from rfl, BI.bigSep_empty]; iempintro
    iempintro
  hexit c := by
    have hjoin := Pipeline.unscopedBufs_of_arrays (pcfgs (F := F)) adm launch0.win launch0.arr_whole c (dats A)
      ((dats A 0 c).share_full fun _ => rfl) (A c) (endVals A c) _ (arrAt_end A c)
      (fun b hb => endVals_of_ne A c b fun e => hb (Finset.mem_image.mpr ⟨4, Finset.mem_univ _, e.symm⟩))
    iintro ⟨Ha, HO, -, HZ⟩
    imodintro
    isplitl [Ha HZ]
    · iapply hjoin
      isplitl [Ha] <;> iassumption
    · unfold Pipeline.Dat.owesAt Pipeline.owesWithin
      icases HO with ⟨%W, %hW, HO⟩; iexists W; isplitr
      · ipureintro
        intro p hp
        rcases hW hp with h | h
        · exact h
        · obtain ⟨_, _, _, rfl⟩ := h
          exact le_rfl
      iexact HO

end Cert.Proof.KernelIdeal
-- ==== Proof.KernelIdeal.Run.lean ====
/-
  The whole program's run: @main's eight layout operations, the TensorCore call that builds the table, and the SparseCore call.
  Every weakly fair execution ends with the arguments as they were, every counter at zero, and the result computed from the
  table of the arguments.
-/
module

public import proofs.«01_k».proof.Proof.KernelIdeal.Tasks
public import proofs.«01_k».proof.Proof.KernelIdeal.Region

@[expose] public section

noncomputable section

namespace Cert.Proof.KernelIdeal

open Cert.KernelIdeal Cert.KernelIdeal.Gen

open Idealize.ShloMosaic
open Idealize.ShloMosaic.TcCoe
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

/-! ## The TensorCore call as @main runs it -/

set_option backward.isDefEq.respectTransparency.types false in
theorem region_wp [∀ e, Nonempty (Elt F e)] (A : Vals F) (d : Dev nD) (Q : PUnit → sProp 𝕄) :
    iprop((iprop(boundary (d : Thread nD τ) ∗ unscopedBufs d (endVals A d) ∗ owesSt d) -∗ Q ⟨⟩)
        ∗ boundary (d : Thread nD τ) ∗ iprop(unscopedBufs d (A d) ∗ owesSt d) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d) none) Set.univ
          (Prog.lift (.customCall (SparseCore.inner (Pipeline.entry 0)) ())) Q := by
  have h1 := (reg0 A).wp (pcfgs (F := F)) adm (dats A) none cellOf_inj EP defs₀ 𝒱₀ (K (F := F)).L (K (F := F)).lev d none (fun u h => nomatch h)
    (fun _ => Prog.ret ⟨⟩) Q
  have h2 := (K (F := F)).wp_liftProg (D (F := F)) 𝒱 (SparseCore.T d) (Set.univ : Set ℕ) none (.op (.customCall (Pipeline.entry 0) ()) fun _ => Prog.ret ⟨⟩) Q
  suffices h0 : iprop((iprop(boundary (d : Thread nD τ) ∗ unscopedBufs d (endVals A d) ∗ owesSt d) -∗ Q ⟨⟩)
        ∗ boundary (d : Thread nD τ) ∗ iprop(unscopedBufs d (A d) ∗ owesSt d) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ iprop((iprop(boundary (d : Thread nD τ) ∗ (reg0 A).post d) -∗ wp frame (wpE (Pipeline.defs (pcfgs (F := F)) defs₀) 𝒱 (d : Thread nD τ) none) Set.univ (Prog.ret PUnit.unit) Q)
        ∗ boundary (d : Thread nD τ) ∗ (reg0 A).pre d ∗ levAts (K (F := F)).L (K (F := F)).lev
        ∗ Pipeline.cellsGhost (Pipeline.pin (pcfgs (F := F)) adm) EP 0 d ∗ Pipeline.toksInit (Pipeline.pin (pcfgs (F := F)) adm) EP 0 d) from h0.trans (h1.trans h2)
  rw [show (reg0 A).post d = iprop(unscopedBufs d (endVals A d) ∗ owesSt d) from rfl, show (reg0 A).pre d = iprop(unscopedBufs d (A d) ∗ owesSt d) from rfl]
  iintro ⟨Hk, Hb, Hpre, Hlv, Hc, Ht⟩
  isplitl [Hk]
  · iintro H
    rw [wp_ret]; imodintro
    iapply Hk; iexact H
  isplitl [Hb]; · iexact Hb
  isplitl [Hpre]; · iexact Hpre
  isplitl [Hlv]; · iexact Hlv
  isplitl [Hc] <;> iassumption

/-! ## @main's layout operations -/

variable (m : (ℓ : Loc nD τ sig) → Buf (Elt F) ℓ) (ρ : Dev nD → PrngReg)

abbrev op1 : HloOp τ sig (Elt F) := StableHlo.reshape main_arg1 main_v0 (rfl : (.f32 : EltTy) = .f32) shapeCasts_S1x1024x1_S1024x1
abbrev op2 : HloOp τ sig (Elt F) := StableHlo.reshape main_v0 main_v1 (rfl : (.f32 : EltTy) = .f32) shapeCasts_S1024x1_S1x1024
abbrev op3 : HloOp τ sig (Elt F) := StableHlo.reshape main_arg3 main_v2 (rfl : (.f32 : EltTy) = .f32) shapeCasts_S1x1024x1_S1024x1
abbrev op4 : HloOp τ sig (Elt F) := StableHlo.reshape main_v2 main_v3 (rfl : (.f32 : EltTy) = .f32) shapeCasts_S1024x1_S1x1024
abbrev op5 : HloOp τ sig (Elt F) := StableHlo.reshape main_arg2 main_v4 (rfl : (.f32 : EltTy) = .f32) shapeCasts_S1x1024x16_S1024x16
abbrev op6 : HloOp τ sig (Elt F) := StableHlo.unary main_v4 main_v5 ((transpose S16x1024 [1, 0] · transposes_S1024x16_S16x1024_1_0) : (⟨S1024x16, .f32⟩ : BufTy).Contents (Elt F) → (⟨S16x1024, .f32⟩ : BufTy).Contents (Elt F))
abbrev op7 : HloOp τ sig (Elt F) := StableHlo.reshape main_arg4 main_v6 (rfl : (.f32 : EltTy) = .f32) shapeCasts_S1x1024x16_S1024x16
abbrev op8 : HloOp τ sig (Elt F) := StableHlo.unary main_v6 main_v7 ((transpose S16x1024 [1, 0] · transposes_S1024x16_S16x1024_1_0) : (⟨S1024x16, .f32⟩ : BufTy).Contents (Elt F) → (⟨S16x1024, .f32⟩ : BufTy).Contents (Elt F))

/-- The eight operations in order. -/
abbrev ops : List (HloOp τ sig (Elt F)) := [op1, op2, op3, op4, op5, op6, op7, op8]

/-- A device's buffers at launch, -/
abbrev V₀ (d : Dev nD) : Valuation τ sig (Elt F) := fun b => m (d, b)
/-- and when the TensorCore call starts. -/
abbrev A₀ : Vals F := fun d b => StableHlo.after ops (V₀ m d) b

/-- An operation's buffers are the TensorCore's. -/
theorem ops_sub : ∀ op ∈ (ops (F := F)), op.bufs ⊆ StableHlo.tcRefs τ sig := by
  intro op hop
  simp only [List.mem_cons, List.mem_nil_iff, or_false] at hop
  rcases hop with rfl | rfl | rfl | rfl | rfl | rfl | rfl | rfl
  · exact StableHlo.reshape_bufs_sub _ _ _ _ _ _
  · exact StableHlo.reshape_bufs_sub _ _ _ _ _ _
  · exact StableHlo.reshape_bufs_sub _ _ _ _ _ _
  · exact StableHlo.reshape_bufs_sub _ _ _ _ _ _
  · exact StableHlo.reshape_bufs_sub _ _ _ _ _ _
  · exact StableHlo.unary_bufs_sub _ _ _ _ _
  · exact StableHlo.reshape_bufs_sub _ _ _ _ _ _
  · exact StableHlo.unary_bufs_sub _ _ _ _ _

/-- No operation writes the arguments or the result. -/
theorem not_written (b : Ref sig .tc) (hb : b ≠ main_v0 ∧ b ≠ main_v1 ∧ b ≠ main_v2 ∧ b ≠ main_v3 ∧ b ≠ main_v4 ∧ b ≠ main_v5 ∧ b ≠ main_v6 ∧ b ≠ main_v7) :
    ∀ op ∈ (ops (F := F)), Proc.devRef .tc b ∉ op.writes := by
  obtain ⟨h0, h1, h2, h3, h4, h5, h6, h7⟩ := hb
  intro op hop
  simp only [List.mem_cons, List.mem_nil_iff, or_false] at hop
  rcases hop with rfl | rfl | rfl | rfl | rfl | rfl | rfl | rfl <;>
    simp only [StableHlo.reshape_writes, StableHlo.unary_writes, Finset.mem_singleton] <;>
    exact StableHlo.devRef_ne_of_ne ‹_›

theorem A₀_keep (d : Dev nD) (b : Ref sig .tc) (hb : b ≠ main_v0 ∧ b ≠ main_v1 ∧ b ≠ main_v2 ∧ b ≠ main_v3 ∧ b ≠ main_v4 ∧ b ≠ main_v5 ∧ b ≠ main_v6 ∧ b ≠ main_v7) :
    A₀ m d b = m ((d : Thread nD τ).loc b) :=
  StableHlo.after_of_forall_not_mem (b := Proc.devRef .tc b) ops (V₀ m d) (not_written b hb)

/-- The TensorCore's unscoped buffers, as the set the operations run within. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = held (c : Thread nD τ) ucRefs W := by
  unfold unscopedBufs StableHlo.held ucRefs StableHlo.tcRefs
  rw [Finset.filter_map, bigSep_map]
  rfl

theorem op_sub (op : HloOp τ sig (Elt F)) (h : op ∈ ops (F := F)) : op.bufs ⊆ ucRefs := fun b hb =>
  Finset.mem_filter.mpr ⟨ops_sub op h hb, fun h' => Bool.false_ne_true ((op.no_scoped b hb).symm.trans h')⟩

/-! ## What is left for the end -/

/-- The table and the arrays the SparseCore call runs on. -/
abbrev tbl₀ (d : Dev nD) : S49x1024.Idx → F .f32 := tblOf (A₀ m) d
abbrev x₀ (d : Dev nD) : S8192x1024.Idx → F .f32 := m (xLoc d)
abbrev o₀ (d : Dev nD) : S8192x1024.Idx → F .f32 := m (oLoc d)

abbrev pay : (K (F := F)).Pay (nD := nD) (Val := Elt F) (Name := ℕ) (U := UU) := P (tbl₀ m) (x₀ m) (o₀ m)

/-- The other four arguments at their launch contents. -/
abbrev argPts (d : Dev nD) : sProp 𝕄 :=
  iprop(((d : Thread nD τ).loc main_arg1 ↦{fullShare} m ((d : Thread nD τ).loc main_arg1)) ∗ ((d : Thread nD τ).loc main_arg2 ↦{fullShare} m ((d : Thread nD τ).loc main_arg2))
    ∗ ((d : Thread nD τ).loc main_arg3 ↦{fullShare} m ((d : Thread nD τ).loc main_arg3)) ∗ ((d : Thread nD τ).loc main_arg4 ↦{fullShare} m ((d : Thread nD τ).loc main_arg4)))

abbrev FIN (d : Dev nD) : sProp 𝕄 :=
  iprop((xLoc d ↦{fullShare} x₀ m d) ∗ argPts m d ∗ oLoc d ↦{fullShare} outVal (tbl₀ m d) (x₀ m d))

/-- After the TensorCore call: the arguments and the result's buffer as launched, the table written. -/
theorem end_split (d : Dev nD) : (unscopedBufs d (endVals (A₀ m) d) : sProp 𝕄)
    ⊢ iprop((xLoc d ↦{fullShare} x₀ m d) ∗ (tLoc d ↦{fullShare} tbl₀ m d) ∗ (oLoc d ↦{fullShare} o₀ m d) ∗ argPts m d) := by
  have keep : ∀ b : Ref sig .tc, b ≠ main_v8 → (b ≠ main_v0 ∧ b ≠ main_v1 ∧ b ≠ main_v2 ∧ b ≠ main_v3 ∧ b ≠ main_v4 ∧ b ≠ main_v5 ∧ b ≠ main_v6 ∧ b ≠ main_v7) →
      endVals (A₀ m) d b = m ((d : Thread nD τ).loc b) := fun b h hb => (endVals_of_ne (A₀ m) d b h).trans (A₀_keep m d b hb)
  have k0 := keep main_arg0 (by decide) (by decide)
  have k1 := keep main_arg1 (by decide) (by decide)
  have k2 := keep main_arg2 (by decide) (by decide)
  have k3 := keep main_arg3 (by decide) (by decide)
  have k4 := keep main_arg4 (by decide) (by decide)
  have k9 := keep main_v9 (by decide) (by decide)
  have k8 := endVals_tbl (A₀ m) d
  generalize endVals (A₀ m) d = E at k0 k1 k2 k3 k4 k8 k9
  unfold unscopedBufs
  rw [show (Finset.univ.filter fun b : Ref sig .tc => ¬ b.isScoped)
      = {main_arg0, main_v8, main_v9, main_arg1, main_arg2, main_arg3, main_arg4, main_v0, main_v1, main_v2, main_v3, main_v4, main_v5, main_v6, main_v7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), k0, k1, k2, k3, k4, k8, k9]
  iintro ⟨H0, H8, H9, H1, H2, H3, H4, -⟩
  isplitl [H0]; · iexact H0
  isplitl [H8]; · iexact H8
  isplitl [H9]; · iexact H9
  isplitl [H1]; · iexact H1
  isplitl [H2]; · iexact H2
  isplitl [H3] <;> iassumption

/-! ## The launch element of the ghost state -/

def u₀ : UU := (initOf (K (F := F)).hsCells (K (F := F)).hsToks, (initOf (Pipeline.cells cfgs cellOf_inj) (Pipeline.launchToks cfgs cellOf_inj), 1))

/-- The pipeline's ghost state on a device. -/
abbrev ghost (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

set_option backward.isDefEq.respectTransparency.types false in
theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (pay m).x q thr) := by
  unfold u₀
  have h1 : (ownU (initOf (K (F := F)).hsCells (K (F := F)).hsToks, ((initOf (Pipeline.cells cfgs cellOf_inj) (Pipeline.launchToks cfgs cellOf_inj), (1 : Counters)) : UP × Counters)) : sProp 𝕄)
      ⊢ iprop(BI.own (EH (initOf (K (F := F)).hsCells (K (F := F)).hsToks)) ∗ BI.own (EB (initOf (Pipeline.cells cfgs cellOf_inj) (Pipeline.launchToks cfgs cellOf_inj), (1 : Counters)))) :=
    ownU_pair _ _
  have h2 : (BI.own (EB (initOf (Pipeline.cells cfgs cellOf_inj) (Pipeline.launchToks cfgs cellOf_inj), (1 : Counters))) : sProp 𝕄)
      ⊢ iprop(BI.own (EP (initOf (Pipeline.cells cfgs cellOf_inj) (Pipeline.launchToks cfgs cellOf_inj))) ∗ BI.own (((Emb.inr : Emb Counters (UP × Counters)).trans EB) 1)) :=
    own_pair_emb EB _ _
  iintro Hu
  ihave H := h1 $$ Hu
  icases H with ⟨HH, HB⟩
  ihave H := h2 $$ HB
  icases H with ⟨HP, -⟩
  imod (Pipeline.fund_ghost cfgs EP cellOf_inj) $$ HP with ⟨Hc, Ht⟩
  imodintro
  isplitl [HH]; · iexact HH
  isplitl [Hc Ht]
  · rw [bigSep_sep']
    isplitl [Hc]
    · iapply (show (bigSep Finset.univ fun d : Dev nD => bigSep Finset.univ fun p : Fin 1 => Pipeline.cellsGhost cfgs EP p d : sProp 𝕄)
          ⊢ bigSep Finset.univ fun d : Dev nD => Pipeline.cellsGhost (Pipeline.pin (pcfgs (F := F)) adm) EP 0 d from
        Entails.of_eq (bigSep_congr fun d _ => bigSep_univ_of_subsingleton (0 : Fin 1))); iexact Hc
    · iapply (show (bigSep Finset.univ fun d : Dev nD => bigSep Finset.univ fun p : Fin 1 => Pipeline.toksInit cfgs EP p d : sProp 𝕄)
          ⊢ bigSep Finset.univ fun d : Dev nD => Pipeline.toksInit (Pipeline.pin (pcfgs (F := F)) adm) EP 0 d from
        Entails.of_eq (bigSep_congr fun d _ => bigSep_univ_of_subsingleton (0 : Fin 1))); iexact Ht
  rw [show (bigSep Finset.univ fun thr : Thread nD τ => bigSep Finset.univ fun q : Fin 1 => (pay m).x q thr)
      = (bigSep Finset.univ fun _ : Thread nD τ => bigSep Finset.univ fun _ : Fin 1 => (iprop(emp) : sProp 𝕄)) from rfl,
    bigSep_congr fun _ _ => bigSep_emp' _, bigSep_emp']
  iempintro

/-! ## @main on the TensorCore -/

theorem hmain [∀ e, Nonempty (Elt F e)] (κ : GSem nD τ sig → ℕ) (d : Dev nD) :
    iprop((K (F := F)).ctx EH (pay m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d fun b => m ((SparseCore.T d).loc b)) = held (SparseCore.T d) ucRefs (V₀ m d) from unscopedBufs_held d (V₀ m d)]
  simp only [main, wp_bind, wp_pure]
  iintro ⟨#Hctx, Hst, ⟨Hb, Hheld, Hts, -⟩, Hgc, Hgt⟩
  iapply (wp_hlo_within 𝒱 (SparseCore.T d) none Set.univ (op := op1) (S := ucRefs) (op_sub op1 (by simp)) (V := V₀ m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := ucRefs) (op_sub op2 (by simp)) (V := StableHlo.after [op1] (V₀ m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := ucRefs) (op_sub op3 (by simp)) (V := StableHlo.after [op1, op2] (V₀ m d))) $$ [Hb Hheld]
  · isplitl [Hb]; · iexact Hb
    iexact Hheld
  iintro ⟨Hb, Hheld⟩
  rw [wp_ret]; imodintro
  iapply (wp_hlo_within 𝒱 (SparseCore.T d) none Set.univ (op := op4) (S := ucRefs) (op_sub op4 (by simp)) (V := StableHlo.after [op1, op2, op3] (V₀ m d))) $$ [Hb Hheld]
  · isplitl [Hb]; · iexact Hb
    iexact Hheld
  iintro ⟨Hb, Hheld⟩
  rw [wp_ret]; imodintro
  iapply (wp_hlo_within 𝒱 (SparseCore.T d) none Set.univ (op := op5) (S := ucRefs) (op_sub op5 (by simp)) (V := StableHlo.after [op1, op2, op3, op4] (V₀ m d))) $$ [Hb Hheld]
  · isplitl [Hb]; · iexact Hb
    iexact Hheld
  iintro ⟨Hb, Hheld⟩
  rw [wp_ret]; imodintro
  iapply (wp_hlo_within 𝒱 (SparseCore.T d) none Set.univ (op := op6) (S := ucRefs) (op_sub op6 (by simp)) (V := StableHlo.after [op1, op2, op3, op4, op5] (V₀ m d))) $$ [Hb Hheld]
  · isplitl [Hb]; · iexact Hb
    iexact Hheld
  iintro ⟨Hb, Hheld⟩
  rw [wp_ret]; imodintro
  iapply (wp_hlo_within 𝒱 (SparseCore.T d) none Set.univ (op := op7) (S := ucRefs) (op_sub op7 (by simp)) (V := StableHlo.after [op1, op2, op3, op4, op5, op6] (V₀ m d))) $$ [Hb Hheld]
  · isplitl [Hb]; · iexact Hb
    iexact Hheld
  iintro ⟨Hb, Hheld⟩
  rw [wp_ret]; imodintro
  iapply (wp_hlo_within 𝒱 (SparseCore.T d) none Set.univ (op := op8) (S := ucRefs) (op_sub op8 (by simp)) (V := StableHlo.after [op1, op2, op3, op4, op5, op6, op7] (V₀ m d))) $$ [Hb Hheld]
  · isplitl [Hb]; · iexact Hb
    iexact Hheld
  iintro ⟨Hb, Hheld⟩
  rw [wp_ret]; imodintro
  ihave Hub := (show (held (SparseCore.T d) ucRefs ((op8 (F := F)).result (StableHlo.after [op1, op2, op3, op4, op5, op6, op7] (V₀ m d))) : sProp 𝕄)
      ⊢ unscopedBufs d (A₀ m d) from Entails.of_eq (unscopedBufs_held d (StableHlo.after ops (V₀ m d))).symm) $$ Hheld
  unfold SparseCore.Cfg.tcSt
  icases Hst with ⟨HO, Hst⟩
  ihave Hlv := (SparseCore.Cfg.ctx_levAts κ) $$ Hctx
  iapply (region_wp (A₀ m) d _)
  isplitr [Hb Hub HO Hgc Hgt]
  rotate_left
  · isplitl [Hb]; · iexact Hb
    isplitl [Hub HO]
    · isplitl [Hub]; · iexact Hub
      iexact HO
    isplitr; · iexact Hlv
    isplitl [Hgc] <;> iassumption
  iintro ⟨Hb, Hub, HO⟩
  ihave H := (end_split m d) $$ Hub
  icases H with ⟨Hx, Ht, Ho, Hargs⟩
  iapply ((K (F := F)).wp_run (D (F := F)) 𝒱 (EH := EH) (P := pay m) κ d 0) $$ [HO Hst Hx Ht Ho Hargs Hb Hts]
  isplitr; · iexact Hctx
  isplitl [HO Hst]
  · unfold SparseCore.Cfg.tcSt
    isplitl [HO]; · iexact HO
    iexact Hst
  isplitl [Hx Ht Ho]
  · rw [st0_eq]
    isplitl [Hx]; · iexact Hx
    isplitl [Ht]; · iexact Ht
    iexact Ho
  iintro ⟨Hst, Hdn⟩
  ihave Hdn' := (Entails.of_eq (dn0_eq (tbl₀ m) (x₀ m) (o₀ m) d)) $$ Hdn
  icases Hdn' with ⟨Hx, -, Ho⟩
  imodintro
  isplitl [Hst]
  · unfold SparseCore.Cfg.tcSt
    iexact Hst
  isplitr [Hb Hts]
  · isplitl [Hx]; · iexact Hx
    isplitl [Hargs]; · iexact Hargs
    iexact Ho
  isplitl [Hb] <;> iassumption

/-! ## The run -/

/-- What a final memory holds on device `d`. -/
def Final (d : Dev nD) (mem : (ℓ : Loc nD τ sig) → Buf (Elt F) ℓ) : Prop :=
  mem (oLoc d) = outVal (tbl₀ m d) (x₀ m d) ∧ mem (xLoc d) = m (xLoc d)
    ∧ mem ((d : Thread nD τ).loc main_arg1) = m ((d : Thread nD τ).loc main_arg1) ∧ mem ((d : Thread nD τ).loc main_arg2) = m ((d : Thread nD τ).loc main_arg2)
    ∧ mem ((d : Thread nD τ).loc main_arg3) = m ((d : Thread nD τ).loc main_arg3) ∧ mem ((d : Thread nD τ).loc main_arg4) = m ((d : Thread nD τ).loc main_arg4)

def fq (d : Dev nD) (s' : Phys nD τ sig (Elt F)) : Prop := Final m d s'.mem.mem

/-- A buffer held whole is what the state has there, the state kept. -/
theorem read_keep (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h1, HSI, -⟩
  isplitr; · ipureintro; exact funext fun i => h1 i (Finset.mem_univ i)
  iexact HSI

theorem hfin (d : Dev nD) (s' : Phys nD τ sig (Elt F)) : iprop(FIN m d ∗ SI s') ⊢ (⌜fq m d s'⌝ : sProp 𝕄) := by
  iintro ⟨⟨Hx, ⟨H1, H2, H3, H4⟩, Ho⟩, HSI⟩
  ihave H := (read_keep s' _ _) $$ [Hx HSI]
  · isplitl [Hx] <;> iassumption
  icases H with ⟨%hx, HSI⟩
  ihave H := (read_keep s' _ _) $$ [H1 HSI]
  · isplitl [H1] <;> iassumption
  icases H with ⟨%h1, HSI⟩
  ihave H := (read_keep s' _ _) $$ [H2 HSI]
  · isplitl [H2] <;> iassumption
  icases H with ⟨%h2, HSI⟩
  ihave H := (read_keep s' _ _) $$ [H3 HSI]
  · isplitl [H3] <;> iassumption
  icases H with ⟨%h3, HSI⟩
  ihave H := (read_keep s' _ _) $$ [H4 HSI]
  · isplitl [H4] <;> iassumption
  icases H with ⟨%h4, HSI⟩
  ihave H := (read_keep s' _ _) $$ [Ho HSI]
  · isplitl [Ho] <;> iassumption
  icases H with ⟨%ho, -⟩
  ipureintro; exact ⟨ho, hx, h1, h2, h3, h4⟩

/-- Every weakly fair execution ends, on every device the result computed, the arguments as launched, every counter at zero. -/
theorem run_main [∀ e, Nonempty (Elt F e)] :
    θ_run (Cert.KernelIdeal.defs (F := F)) (Cert.KernelIdeal.threads (F := F)) ⟨m, fun _ => 0, ρ⟩
      (fun r => (∀ d : Dev nD, Final m d r.2.mem) ∧ r.2.sem = fun _ => 0) :=
  SparseCore.Cfg.θ_run_sc_quiescent (K := K (F := F)) (D := D (F := F)) (𝒱 := 𝒱) (EH := EH) (P := pay m) (A := ∅) facts v₀
    (fun q hq => match q with | 0 => nomatch hq)
    (fun q _ => match q with | 0 => tileObl (tbl₀ m) (x₀ m) (o₀ m) facts)
    (fun q _ => match q with | 0 => SparseCore.Cfg.VecSplit.of_plain (vecSplit (tbl₀ m) (x₀ m) (o₀ m)))
    m ρ main (fun d => ghost d) (FIN m) (u₀ (F := F)) (sep_elim_left.trans (hu₀ m)) (hmain m ρ) (fq m) (hfin m) _ (fun _ h hz => ⟨h, hz⟩)

end Cert.Proof.KernelIdeal
-- ==== Proof.Frames.lean ====
/-
  The frames: every run of the kernel, of its idealization and of the reference ends, leaves the five arguments as they
  were, and leaves every semaphore counter at zero.
-/
module

public import proofs.«01_k».proof.Defs
public import proofs.«01_k».proof.Proof.Kernel.Run
public import proofs.«01_k».proof.Proof.KernelIdeal.Run
public import proofs.«01_k».proof.Proof.Gen.ReferenceIdeal
public import proofs.«01_k».proof.Proof.Gen.Pre_single_segment
public import proofs.«01_k».proof.Proof.Gen.ReferenceIdeal.Run
public import Idealize.ShloMosaic.Adequacy

@[expose] public section

noncomputable section

namespace Cert.Proof

open Idealize.ShloMosaic Idealize.ShloMosaic.TcCoe Idealize.SL.Sem

/-- The kernel on bits keeps its arguments and ends quiet. -/
theorem frame_kernel : Cert.quiescent_Kernel := fun m ρ _ =>
  (θ_run Cert.Kernel.defs _ _).mono (fun _ h => ⟨fun c => (h.1 c).2, h.2⟩) (Cert.Proof.Kernel.run_main (F := Bits) m ρ)

/-- The kernel on extended reals keeps its arguments and ends quiet. -/
theorem frame_ideal : Cert.quiescent_KernelIdeal := fun m ρ _ =>
  (θ_run Cert.KernelIdeal.defs _ _).mono (fun _ h => ⟨fun c => (h.1 c).2, h.2⟩) (Cert.Proof.KernelIdeal.run_main (F := Ideal) m ρ)

/-- The same under the precondition, which the frame does not use. -/
theorem frame_ideal_pre : Cert.quiescent_KernelIdeal_pre_single_segment := fun m ρ _ =>
  (θ_run Cert.KernelIdeal.defs _ _).mono (fun _ h => ⟨fun c => (h.1 c).2, h.2⟩) (Cert.Proof.KernelIdeal.run_main (F := Ideal) m ρ)

/-- The reference keeps its arguments; it declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same under the precondition. -/
theorem frame_reference_pre : Cert.quiescent_ReferenceIdeal_pre_single_segment := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Proof

end
-- ==== Proof.Math.lean ====
/-
  The arithmetic of one element over the extended reals. The breakpoints a column places are all equal or all real and
  rising; the levels are real when the level steps are finite. From these: where no interior breakpoint is hit, the line
  of the one segment an element lies in is the sum of all sixteen segments' lines, each times its own indicator.
-/
module

public import proofs.«01_k».proof.Proof.Table
public import Idealize.ShloMosaic.PureOps.Ideal

@[expose] public section

noncomputable section

namespace Cert.Proof.Seg

open Idealize.ShloMosaic

/-! ## The constants and the softplus -/

theorem zero_ideal : (zero32 : Ideal .f32) = (0 : EReal) := by
  show Ideal.ofBits .f32 0x00000000#32 = 0
  simp [Ideal.ofBits, Ideal.ieee]

theorem one_ideal : (one32 : Ideal .f32) = (1 : EReal) := by
  show Ideal.ofBits .f32 0x3F800000#32 = 1
  simp [Ideal.ofBits, Ideal.ieee]
  norm_num
  rw [← EReal.coe_mul, ← EReal.coe_one]
  norm_num

/-- The softplus as a formula on extended reals. -/
theorem sp_ideal (v : EReal) : sp (F := Ideal) v = max v 0 + Ideal.log (1 + Ideal.exp (-max v (-v))) := by
  show max v (zero32 : Ideal .f32) + Ideal.log ((one32 : Ideal .f32) + Ideal.exp ((zero32 : Ideal .f32) - max v (-v))) = _
  rw [zero_ideal, one_ideal, zero_sub]

/-- The softplus of a real is a positive real. -/
theorem sp_coe (v : ℝ) : ∃ r : ℝ, 0 < r ∧ sp (F := Ideal) ((v : ℝ) : EReal) = (r : EReal) := by
  have h : 0 < Real.exp (-max v (-v)) := Real.exp_pos _
  refine ⟨max v 0 + Real.log (1 + Real.exp (-max v (-v))), ?_, ?_⟩
  · have := Real.log_pos (show 1 < 1 + Real.exp (-max v (-v)) by linarith)
    have := le_max_right v 0
    linarith
  · rw [sp_ideal]
    have e1 : max (v : EReal) (-(v : EReal)) = ((max v (-v) : ℝ) : EReal) := by
      rw [← EReal.coe_neg]; exact (EReal.coe_strictMono.monotone.map_max).symm
    have e2 : max (v : EReal) 0 = ((max v 0 : ℝ) : EReal) := by
      rw [← EReal.coe_zero]; exact (EReal.coe_strictMono.monotone.map_max).symm
    rw [e1, e2, ← EReal.coe_neg, Ideal.exp_coe, ← EReal.coe_one, ← EReal.coe_add, Ideal.log_coe,
      if_neg (by linarith), ← EReal.coe_add]

/-- The softplus is never negative. -/
theorem sp_nonneg (v : EReal) : (0 : EReal) ≤ sp (F := Ideal) v := by
  induction v using EReal.rec with
  | bot => rw [sp_ideal]; simp [← EReal.coe_one]; norm_num
  | top => rw [sp_ideal]; simp [← EReal.coe_one]
  | coe v =>
    obtain ⟨r, hr, e⟩ := sp_coe v
    rw [e]; exact_mod_cast hr.le

/-! ## The running sums -/

theorem cum_zero (dx : ℕ → EReal) : cum (F := Ideal) dx 0 = sp (F := Ideal) (dx 0) := rfl
theorem cum_succ (dx : ℕ → EReal) (n : ℕ) :
    cum (F := Ideal) dx (n + 1) = (cum (F := Ideal) dx n + sp (F := Ideal) (dx (n + 1)) : EReal) := rfl

theorem cum_nonneg (dx : ℕ → EReal) : ∀ n, (0 : EReal) ≤ cum (F := Ideal) dx n
  | 0 => sp_nonneg _
  | n + 1 => by rw [cum_succ]; exact add_nonneg (cum_nonneg dx n) (sp_nonneg _)

theorem cum_mono (dx : ℕ → EReal) : Monotone (fun n => (cum (F := Ideal) dx n : EReal)) :=
  monotone_nat_of_le_succ fun n => by
    show (cum (F := Ideal) dx n : EReal) ≤ cum (F := Ideal) dx (n + 1)
    rw [cum_succ]
    exact le_add_of_nonneg_right (sp_nonneg _)

/-- Running sums of positive reals are positive reals. -/
theorem cum_pos (dx : ℕ → EReal) (h : ∀ n, ∃ r : ℝ, dx n = (r : EReal)) :
    ∀ n, ∃ r : ℝ, 0 < r ∧ cum (F := Ideal) dx n = (r : EReal)
  | 0 => by obtain ⟨v, hv⟩ := h 0; rw [cum_zero, hv]; exact sp_coe v
  | n + 1 => by
    obtain ⟨a, ha, ea⟩ := cum_pos dx h n
    obtain ⟨v, hv⟩ := h (n + 1)
    obtain ⟨b, hb, eb⟩ := sp_coe v
    exact ⟨a + b, add_pos ha hb, by rw [cum_succ, ea, hv, eb]; exact (EReal.coe_add a b).symm⟩

/-! ## The breakpoints -/

theorem raw_zero (x0 : EReal) (dx : ℕ → EReal) : raw (F := Ideal) x0 dx 0 = x0 := by
  show (x0 - (zero32 : Ideal .f32) : EReal) = x0
  rw [zero_ideal, sub_zero]

theorem raw_succ (x0 : EReal) (dx : ℕ → EReal) (n : ℕ) :
    raw (F := Ideal) x0 dx (n + 1) = (x0 + cum (F := Ideal) dx n : EReal) := by
  show ((x0 + cum (F := Ideal) dx n) - (zero32 : Ideal .f32) : EReal) = _
  rw [zero_ideal, sub_zero]

theorem chg_eq (x0 : EReal) (dx : ℕ → EReal) :
    chg (F := Ideal) x0 dx = Ideal.div 1 ((x0 + cum (F := Ideal) dx 15 : EReal) - x0) := by
  show Ideal.div (one32 : Ideal .f32) (raw (F := Ideal) x0 dx 16 - raw (F := Ideal) x0 dx 0 : EReal) = _
  rw [one_ideal, raw_succ, raw_zero]

theorem piece_eq (x0 : EReal) (dx : ℕ → EReal) (n : ℕ) :
    piece (F := Ideal) x0 dx n = (raw (F := Ideal) x0 dx n * chg (F := Ideal) x0 dx : EReal) := by
  show (raw (F := Ideal) x0 dx n * chg (F := Ideal) x0 dx + (zero32 : Ideal .f32) : EReal) = _
  rw [zero_ideal, add_zero]

theorem div_one_top : Ideal.div 1 (⊤ : EReal) = 0 := by simp [Ideal.div]
theorem div_one_bot : Ideal.div 1 (⊥ : EReal) = 0 := by simp [Ideal.div]

/-- From an infinite start every breakpoint is 0. -/
theorem piece_inf (x0 : EReal) (dx : ℕ → EReal) (h : x0 = ⊤ ∨ x0 = ⊥) (n : ℕ) : piece (F := Ideal) x0 dx n = (0 : EReal) := by
  rw [piece_eq, chg_eq]
  rcases h with rfl | rfl
  · rw [EReal.top_add_of_ne_bot (ne_of_gt (lt_of_lt_of_le EReal.bot_lt_zero (cum_nonneg dx 15)))]
    rw [show ((⊤ : EReal) - ⊤) = ⊥ from rfl, div_one_bot, mul_zero]
  · rw [EReal.bot_add, show ((⊥ : EReal) - ⊥) = ⊥ from rfl, div_one_bot, mul_zero]

/-- From a real start, when the total of the steps is a real, every running sum is. -/
theorem cum_real (dx : ℕ → EReal) (h : cum (F := Ideal) dx 15 ≠ (⊤ : EReal)) (n : ℕ) (hn : n ≤ 15) :
    ∃ r : ℝ, cum (F := Ideal) dx n = (r : EReal) := by
  have h1 : (cum (F := Ideal) dx n : EReal) ≤ cum (F := Ideal) dx 15 := cum_mono dx hn
  have h2 := cum_nonneg dx n
  exact ⟨_, (EReal.coe_toReal (ne_top_of_le_ne_top h h1) (ne_of_gt (lt_of_lt_of_le EReal.bot_lt_zero h2))).symm⟩

/-- The breakpoints are all one value, or they are reals that never fall. -/
theorem piece_shape (x0 : EReal) (dx : ℕ → EReal) :
    (∀ n ≤ 16, piece (F := Ideal) x0 dx n = piece (F := Ideal) x0 dx 0)
      ∨ ∃ r : ℕ → ℝ, (∀ n ≤ 16, piece (F := Ideal) x0 dx n = (r n : EReal)) ∧ ∀ i j, i ≤ j → j ≤ 16 → r i ≤ r j := by
  induction x0 using EReal.rec with
  | bot => exact Or.inl fun n _ => by rw [piece_inf _ _ (Or.inr rfl), piece_inf _ _ (Or.inr rfl)]
  | top => exact Or.inl fun n _ => by rw [piece_inf _ _ (Or.inl rfl), piece_inf _ _ (Or.inl rfl)]
  | coe a =>
    by_cases ht : cum (F := Ideal) dx 15 = (⊤ : EReal)
    · left
      intro n _
      have hc : chg (F := Ideal) (a : EReal) dx = (0 : EReal) := by
        rw [chg_eq, ht, EReal.coe_add_top, EReal.top_sub_coe, div_one_top]
      rw [piece_eq, piece_eq, hc, mul_zero, mul_zero]
    · choose! c hc using cum_real dx ht
      have hraw : ∀ n ≤ 16, raw (F := Ideal) (a : EReal) dx n = ((if n = 0 then a else a + c (n - 1) : ℝ) : EReal) := by
        intro n hn
        cases n with
        | zero => rw [raw_zero]; simp
        | succ n => rw [raw_succ, hc n (by omega)]; simp
      have hc0 : ∀ n ≤ 15, 0 ≤ c n := fun n hn => by
        have := cum_nonneg dx n; rw [hc n hn] at this; exact_mod_cast this
      have hcm : ∀ i j, i ≤ j → j ≤ 15 → c i ≤ c j := fun i j hij hj => by
        have : (cum (F := Ideal) dx i : EReal) ≤ cum (F := Ideal) dx j := cum_mono dx hij
        rw [hc i (by omega), hc j hj] at this; exact_mod_cast this
      have hchg : chg (F := Ideal) (a : EReal) dx = Ideal.div 1 ((c 15 : ℝ) : EReal) := by
        rw [chg_eq, hc 15 le_rfl, ← EReal.coe_add, ← EReal.coe_sub, add_sub_cancel_left]
      by_cases hz : c 15 = 0
      · left
        intro n hn
        have e : raw (F := Ideal) (a : EReal) dx n = raw (F := Ideal) (a : EReal) dx 0 := by
          rw [hraw n hn, hraw 0 (by omega)]
          by_cases h0 : n = 0
          · rw [h0]
          · have h1 := hcm (n - 1) 15 (by omega) le_rfl
            have h2 := hc0 (n - 1) (by omega)
            have : c (n - 1) = 0 := by linarith
            simp [h0, this]
        rw [piece_eq, piece_eq, e]
      · right
        have hpos : 0 < c 15 := lt_of_le_of_ne (hc0 15 le_rfl) (Ne.symm hz)
        refine ⟨fun n => (if n = 0 then a else a + c (n - 1)) * (1 / c 15), fun n hn => ?_, fun i j hij hj => ?_⟩
        · rw [piece_eq, hraw n hn, hchg, Ideal.div_coe hz, one_mul, ← EReal.coe_mul]
        · refine mul_le_mul_of_nonneg_right ?_ (by positivity)
          by_cases hi : i = 0
          · by_cases hj0 : j = 0
            · simp [hi, hj0]
            · have := hc0 (j - 1) (by omega); simp [hi, hj0]; exact this
          · have hj0 : j ≠ 0 := by omega
            have := hcm (i - 1) (j - 1) (by omega) (by omega)
            simp [hi, hj0]; exact this

/-- With finite steps every breakpoint is a real. -/
theorem piece_real (y0 : EReal) (dy : ℕ → EReal) (h : ∀ n, ∃ r : ℝ, dy n = (r : EReal)) (n : ℕ) :
    ∃ r : ℝ, piece (F := Ideal) y0 dy n = (r : EReal) := by
  induction y0 using EReal.rec with
  | bot => exact ⟨0, piece_inf _ _ (Or.inr rfl) n⟩
  | top => exact ⟨0, piece_inf _ _ (Or.inl rfl) n⟩
  | coe a =>
    choose c hc0 hc using cum_pos dy h
    have hraw : ∃ r : ℝ, raw (F := Ideal) (a : EReal) dy n = (r : EReal) := by
      cases n with
      | zero => exact ⟨a, raw_zero _ _⟩
      | succ n => exact ⟨a + c n, by rw [raw_succ, hc]; exact (EReal.coe_add _ _).symm⟩
    obtain ⟨r, hr⟩ := hraw
    refine ⟨r * (1 / c 15), ?_⟩
    rw [piece_eq, hr, chg_eq, hc 15, ← EReal.coe_add, ← EReal.coe_sub, add_sub_cancel_left,
      Ideal.div_coe (hc0 15).ne', one_mul, ← EReal.coe_mul]

/-! ## The element -/

/-- An indicator bit as a number. -/
def ind (b : BitVec 1) : EReal := ((b.toNat : ℝ) : EReal)

theorem ind_true : ind 1#1 = 1 := by simp [ind]
theorem ind_false : ind 0#1 = 0 := by simp [ind]

/-- The bit of "`x` lies between breakpoints `k` and `k + 1`, both counted in". -/
def inSeg (p : ℕ → EReal) (x : EReal) (k : ℕ) : BitVec 1 :=
  IntOp.andi (Ideal.cmp .oge x (p k)) (Ideal.cmp .ole x (p (k + 1)))

theorem inSeg_pos (p : ℕ → EReal) (x : EReal) (k : ℕ) (h : p k ≤ x ∧ x ≤ p (k + 1)) : inSeg p x k = 1#1 := by
  simp [inSeg, Ideal.cmp, IntOp.andi, h.1, h.2]

theorem inSeg_neg (p : ℕ → EReal) (x : EReal) (k : ℕ) (h : ¬ (p k ≤ x ∧ x ≤ p (k + 1))) : inSeg p x k = 0#1 := by
  by_cases h1 : p k ≤ x
  · have h2 : ¬ x ≤ p (k + 1) := fun h2 => h ⟨h1, h2⟩
    simp [inSeg, Ideal.cmp, IntOp.andi, h1, h2]
  · simp [inSeg, Ideal.cmp, IntOp.andi, h1]

/-- The sum over all sixteen segments of each one's line times its indicator, plus the element itself below the first
    breakpoint and above the last. -/
def refVal (p q s : ℕ → EReal) (x : EReal) : EReal :=
  (∑ k : Fin 16, ((x - p k.val) * s k.val + q k.val) * ind (inSeg p x k.val))
    + ind (Ideal.cmp .olt x (p 0)) * x + ind (Ideal.cmp .ogt x (p 16)) * x

/-- The number of the segment an element lies in. -/
theorem exists_seg (p : ℕ → EReal) (x : EReal) (hp : ∀ i j, i ≤ j → j ≤ 16 → p i ≤ p j) :
    ∃ k ≤ 15, ∀ i, 1 ≤ i → i ≤ 15 → (p i ≤ x ↔ i ≤ k) := by
  classical
  refine ⟨Nat.findGreatest (fun i => p i ≤ x) 15, Nat.findGreatest_le _, fun i hi hi' => ⟨fun h => Nat.le_findGreatest hi' h, fun h => ?_⟩⟩
  have h0 : Nat.findGreatest (fun i => p i ≤ x) 15 ≠ 0 := by omega
  have hk : p (Nat.findGreatest (fun i => p i ≤ x) 15) ≤ x :=
    Nat.findGreatest_of_ne_zero (P := fun i => p i ≤ x) rfl h0
  exact (hp _ _ h (by have := Nat.findGreatest_le (P := fun i => p i ≤ x) 15; omega)).trans hk

/-- Counting the interior breakpoints passed gives that number. -/
theorem seg_eq (P : Fin 49 → EReal) (x : EReal) (k : ℕ) (hk : k ≤ 15)
    (h : ∀ i : Fin 49, 1 ≤ i.val → i.val ≤ 15 → (P i ≤ x ↔ i.val ≤ k)) : (seg (F := Ideal) P x).val = k := by
  have hc : ∀ i : Fin 49, 1 ≤ i.val → i.val ≤ 15 →
      (FloatOps.cmpf (F := Ideal) (φ := .f32) .oge x (P i)).toNat = if i.val ≤ k then 1 else 0 := by
    intro i h1 h2
    show (Ideal.cmp .oge x (P i)).toNat = _
    by_cases hi : i.val ≤ k
    · simp [Ideal.cmp, (h i h1 h2).2 hi, hi]
    · have : ¬ P i ≤ x := fun hh => hi ((h i h1 h2).1 hh)
      simp [Ideal.cmp, this, hi]
  show (segw (F := Ideal) P x).toNat = k
  rw [segw_toNat]
  simp only [List.map_cons, List.map_nil]
  rw [hc 1 (by decide) (by decide), hc 2 (by decide) (by decide), hc 3 (by decide) (by decide), hc 4 (by decide) (by decide),
    hc 5 (by decide) (by decide), hc 6 (by decide) (by decide), hc 7 (by decide) (by decide), hc 8 (by decide) (by decide),
    hc 9 (by decide) (by decide), hc 10 (by decide) (by decide), hc 11 (by decide) (by decide), hc 12 (by decide) (by decide),
    hc 13 (by decide) (by decide), hc 14 (by decide) (by decide), hc 15 (by decide) (by decide)]
  clear hc h
  interval_cases k <;> rfl

/-- Inside the range: the value is the line of the one segment. -/
theorem refVal_in (p q s : ℕ → EReal) (x : EReal) (k : ℕ) (hk : k ≤ 15)
    (hp : ∀ i j, i ≤ j → j ≤ 16 → p i ≤ p j) (h0 : p 0 ≤ x) (h16 : x ≤ p 16)
    (hx : ∀ n, 1 ≤ n → n ≤ 15 → x ≠ p n) (hs : ∀ i, 1 ≤ i → i ≤ 15 → (p i ≤ x ↔ i ≤ k)) :
    refVal p q s x = (x - p k) * s k + q k := by
  have hin : ∀ j : ℕ, j ≤ 15 → ((p j ≤ x ∧ x ≤ p (j + 1)) ↔ j = k) := by
    intro j hj
    constructor
    · rintro ⟨h1, h2⟩
      have a : j ≤ k := by
        by_cases hj0 : j = 0
        · omega
        · exact (hs j (by omega) hj).1 h1
      by_contra hne
      have h3 := (hs (j + 1) (by omega) (by omega)).2 (by omega)
      exact hx (j + 1) (by omega) (by omega) (le_antisymm h2 h3)
    · rintro rfl
      constructor
      · by_cases hj0 : j = 0
        · rw [hj0]; exact h0
        · exact (hs j (by omega) hj).2 le_rfl
      · by_cases hj15 : j = 15
        · rw [hj15]; exact h16
        · have : ¬ p (j + 1) ≤ x := fun h => by have := (hs (j + 1) (by omega) (by omega)).1 h; omega
          exact (not_le.1 this).le
  have hlo : Ideal.cmp .olt x (p 0) = 0#1 := by simp [Ideal.cmp, not_lt.2 h0]
  have hhi : Ideal.cmp .ogt x (p 16) = 0#1 := by simp [Ideal.cmp, not_lt.2 h16]
  unfold refVal
  rw [hlo, hhi, ind_false, zero_mul, add_zero, add_zero, Finset.sum_eq_single (⟨k, by omega⟩ : Fin 16)]
  · rw [inSeg_pos _ _ _ ((hin k hk).2 rfl), ind_true, mul_one]
  · intro j _ hj
    rw [inSeg_neg _ _ _ (fun h => hj (Fin.ext ((hin j.val (by omega)).1 h))), ind_false, mul_zero]
  · intro h; exact absurd (Finset.mem_univ _) h

/-- Outside the range: the value is the element. -/
theorem refVal_out (p q s : ℕ → EReal) (x : EReal) (hp : ∀ i j, i ≤ j → j ≤ 16 → p i ≤ p j) (h : x < p 0 ∨ p 16 < x) :
    refVal p q s x = x := by
  have h016 : p 0 ≤ p 16 := hp 0 16 (by omega) le_rfl
  have hz : (∑ k : Fin 16, ((x - p k.val) * s k.val + q k.val) * ind (inSeg p x k.val)) = 0 := by
    refine Finset.sum_eq_zero fun k _ => ?_
    rw [inSeg_neg, ind_false, mul_zero]
    rintro ⟨h1, h2⟩
    rcases h with h | h
    · exact absurd (hp 0 k.val (by omega) (by omega)) (not_le.2 (lt_of_le_of_lt h1 h))
    · exact absurd (hp (k.val + 1) 16 (by omega) le_rfl) (not_le.2 (lt_of_lt_of_le h h2))
  unfold refVal
  rw [hz, zero_add]
  rcases h with h | h
  · have hhi : Ideal.cmp .ogt x (p 16) = 0#1 := by simp [Ideal.cmp, not_lt.2 (h.le.trans h016)]
    have hlo : Ideal.cmp .olt x (p 0) = 1#1 := by simp [Ideal.cmp, h]
    rw [hhi, hlo, ind_false, ind_true, one_mul, zero_mul, add_zero]
  · have hlo : Ideal.cmp .olt x (p 0) = 0#1 := by simp [Ideal.cmp, not_lt.2 (h016.trans h.le)]
    have hhi : Ideal.cmp .ogt x (p 16) = 1#1 := by simp [Ideal.cmp, h]
    rw [hhi, hlo, ind_false, ind_true, one_mul, zero_mul, zero_add]

theorem colVal_piece (x0 : EReal) (dx : ℕ → EReal) (y0 : EReal) (dy : ℕ → EReal) (r : Fin 49) (h : r.val < 17) :
    colVal (F := Ideal) x0 dx y0 dy r = piece (F := Ideal) x0 dx r.val := by
  unfold colVal; rw [if_pos h]

theorem colVal_slope (x0 : EReal) (dx : ℕ → EReal) (y0 : EReal) (dy : ℕ → EReal) (k : Fin 16) :
    colVal (F := Ideal) x0 dx y0 dy (rowS k) = slope (F := Ideal) x0 dx y0 dy k.val := by
  unfold colVal rowS
  rw [if_neg (by show ¬ k.val + 17 < 17; omega), if_pos (by show k.val + 17 < 33; omega)]
  rfl

theorem colVal_offs (x0 : EReal) (dx : ℕ → EReal) (y0 : EReal) (dy : ℕ → EReal) (k : Fin 16) :
    colVal (F := Ideal) x0 dx y0 dy (rowC k) = offs (F := Ideal) x0 dx y0 dy k.val := by
  unfold colVal rowC
  rw [if_neg (by show ¬ k.val + 33 < 17; omega), if_neg (by show ¬ k.val + 33 < 33; omega)]
  rfl

/-- One element: the tile's value is the sum over the segments, when no interior breakpoint is hit and the level steps
    are finite. -/
theorem kval_eq (x0 : EReal) (dx : ℕ → EReal) (y0 : EReal) (dy : ℕ → EReal) (x : EReal)
    (hdy : ∀ n, ∃ r : ℝ, dy n = (r : EReal)) (hx : ∀ n, 1 ≤ n → n ≤ 15 → x ≠ piece (F := Ideal) x0 dx n) :
    kval (F := Ideal) (colVal (F := Ideal) x0 dx y0 dy) x
      = refVal (piece (F := Ideal) x0 dx) (piece (F := Ideal) y0 dy) (slope (F := Ideal) x0 dx y0 dy) x := by
  set p : ℕ → EReal := piece (F := Ideal) x0 dx with hpdef
  set q : ℕ → EReal := piece (F := Ideal) y0 dy with hqdef
  set s : ℕ → EReal := slope (F := Ideal) x0 dx y0 dy with hsdef
  have hshape : (∀ n ≤ 16, p n = p 0) ∨ ∃ r : ℕ → ℝ, (∀ n ≤ 16, p n = (r n : EReal)) ∧ ∀ i j, i ≤ j → j ≤ 16 → r i ≤ r j :=
    piece_shape x0 dx
  have hp : ∀ i j, i ≤ j → j ≤ 16 → p i ≤ p j := by
    intro i j hij hj
    rcases hshape with h | ⟨r, hr, hm⟩
    · rw [h i (by omega), h j hj]
    · rw [hr i (by omega), hr j hj]; exact_mod_cast hm i j hij hj
  have hcol : ∀ r : Fin 49, r.val < 17 → colVal (F := Ideal) x0 dx y0 dy r = p r.val := fun r h => colVal_piece x0 dx y0 dy r h
  unfold kval
  rw [hcol 0 (by decide), hcol 16 (by decide)]
  show Scalar.select (IntOp.andi (Ideal.cmp .oge x (p 0)) (Ideal.cmp .ole x (p 16))) _ x = _
  by_cases hb : p 0 ≤ x ∧ x ≤ p 16
  · obtain ⟨h0, h16⟩ := hb
    have hsel : IntOp.andi (Ideal.cmp .oge x (p 0)) (Ideal.cmp .ole x (p 16)) = 1#1 := by
      simp [Ideal.cmp, IntOp.andi, h0, h16]
    rw [hsel]
    obtain ⟨k, hk, hs⟩ := exists_seg p x hp
    have hseg : (seg (F := Ideal) (colVal (F := Ideal) x0 dx y0 dy) x).val = k :=
      seg_eq _ x k hk fun i h1 h2 => by rw [hcol i (by omega)]; exact hs i.val h1 h2
    rw [refVal_in p q s x k hk hp h0 h16 hx hs, colVal_slope, colVal_offs, hseg]
    show (x * s k + (q k - p k * s k) : EReal) = _
    rcases hshape with h | ⟨r, hr, hm⟩
    · exact absurd (le_antisymm (by rw [h 1 (by omega), ← h 16 le_rfl]; exact h16) (by rw [h 1 (by omega)]; exact h0))
        (hx 1 le_rfl (by omega))
    · have hne : r (k + 1) - r k ≠ 0 := by
        intro he
        have he' : p (k + 1) = p k := by rw [hr _ (by omega), hr _ (by omega)]; exact congrArg _ (by linarith)
        have hlo : p k ≤ x := by
          by_cases hk0 : k = 0
          · rw [hk0]; exact h0
          · exact (hs k (by omega) hk).2 le_rfl
        have hhi : x ≤ p (k + 1) := by
          by_cases hk15 : k = 15
          · rw [hk15]; exact h16
          · have : ¬ p (k + 1) ≤ x := fun h => by have := (hs (k + 1) (by omega) (by omega)).1 h; omega
            exact (not_le.1 this).le
        have hxk : x = p k := le_antisymm (he' ▸ hhi) hlo
        by_cases hk0 : k = 0
        · subst hk0; exact hx 1 le_rfl (by omega) (hxk.trans he'.symm)
        · exact hx k (by omega) hk hxk
      obtain ⟨X, hX⟩ : ∃ X : ℝ, x = (X : EReal) := by
        refine ⟨_, (EReal.coe_toReal ?_ ?_).symm⟩
        · rw [hr 16 le_rfl] at h16; exact ne_top_of_le_ne_top (EReal.coe_ne_top _) h16
        · rw [hr 0 (by omega)] at h0; exact ne_bot_of_le_ne_bot (EReal.coe_ne_bot _) h0
      obtain ⟨a, ha⟩ : ∃ r : ℝ, q k = (r : EReal) := piece_real y0 dy hdy k
      obtain ⟨b, hb⟩ : ∃ r : ℝ, q (k + 1) = (r : EReal) := piece_real y0 dy hdy (k + 1)
      have hsk : s k = (((b - a) * (1 / (r (k + 1) - r k)) : ℝ) : EReal) := by
        show Ideal.div (q (k + 1) - q k) (p (k + 1) - p k) = _
        rw [ha, hb, hr _ (by omega), hr _ (by omega), ← EReal.coe_sub, ← EReal.coe_sub, Ideal.div_coe hne, ← EReal.coe_mul]
      rw [hsk, hX, ha, hr k (by omega), ← EReal.coe_mul, ← EReal.coe_mul, ← EReal.coe_sub, ← EReal.coe_sub, ← EReal.coe_add,
        ← EReal.coe_mul, ← EReal.coe_add]
      exact congrArg _ (by ring)
  · have hsel : IntOp.andi (Ideal.cmp .oge x (p 0)) (Ideal.cmp .ole x (p 16)) = 0#1 := by
      by_cases h1 : p 0 ≤ x
      · have h2 : ¬ x ≤ p 16 := fun h2 => hb ⟨h1, h2⟩
        simp [Ideal.cmp, IntOp.andi, h1, h2]
      · simp [Ideal.cmp, IntOp.andi, h1]
    rw [hsel, refVal_out p q s x hp]
    · rfl
    · by_contra h
      rw [not_or, not_lt, not_lt] at h
      exact hb h

end Cert.Proof.Seg

end
-- ==== Proof.KernelArgs.lean ====
/-
  The table the TensorCore call builds, read at the arguments: its inputs are the arguments reshaped and transposed.
-/
module

public import proofs.«01_k».proof.Proof.KernelIdeal.Run
public import proofs.«01_k».proof.Proof.Math
public import Idealize.ShloMosaic.Lib.Pointwise

@[expose] public section

noncomputable section

namespace Cert.Proof.KernelIdeal

open Cert.KernelIdeal Cert.KernelIdeal.Gen
open Idealize.ShloMosaic Idealize.ShloMosaic.TcCoe Idealize.SL.Sem
open Cert.Proof.Seg

variable (m : (ℓ : Loc nD τ sig) → Buf (Elt Ideal) ℓ) (d : Dev nD)

theorem in_v1 (f : Fin 1024) : (A₀ m d main_v1 : FVec Ideal S1x1024 .f32) (ix2 0 f)
    = (m ((d.tc : Thread nD τ).loc main_arg1) : FVec Ideal S1x1024x1 .f32) (ix3 0 f 0) := by
  have e : (A₀ m d main_v1 : FVec Ideal S1x1024 .f32)
      = shapeCast S1x1024 (shapeCast S1024x1 (m ((d.tc : Thread nD τ).loc main_arg1) : FVec Ideal S1x1024x1 .f32) shapeCasts_S1x1024x1_S1024x1)
          shapeCasts_S1024x1_S1x1024 := by
    show StableHlo.after ops (V₀ m d) _ = _
    simp only [ops, op1, op2, op3, op4, op5, op6, op7, op8]
    after_results_simp
    rfl
  rw [e]
  pointwise

theorem in_v3 (f : Fin 1024) : (A₀ m d main_v3 : FVec Ideal S1x1024 .f32) (ix2 0 f)
    = (m ((d.tc : Thread nD τ).loc main_arg3) : FVec Ideal S1x1024x1 .f32) (ix3 0 f 0) := by
  have e : (A₀ m d main_v3 : FVec Ideal S1x1024 .f32)
      = shapeCast S1x1024 (shapeCast S1024x1 (m ((d.tc : Thread nD τ).loc main_arg3) : FVec Ideal S1x1024x1 .f32) shapeCasts_S1x1024x1_S1024x1)
          shapeCasts_S1024x1_S1x1024 := by
    show StableHlo.after ops (V₀ m d) _ = _
    simp only [ops, op1, op2, op3, op4, op5, op6, op7, op8]
    after_results_simp
    rfl
  rw [e]
  pointwise

theorem in_v5 (f : Fin 1024) (n : Fin 16) : (A₀ m d main_v5 : FVec Ideal S16x1024 .f32) (ix2 n f)
    = (m ((d.tc : Thread nD τ).loc main_arg2) : FVec Ideal S1x1024x16 .f32) (ix3 0 f n) := by
  have e : (A₀ m d main_v5 : FVec Ideal S16x1024 .f32)
      = transpose S16x1024 [1, 0] (shapeCast S1024x16 (m ((d.tc : Thread nD τ).loc main_arg2) : FVec Ideal S1x1024x16 .f32)
          shapeCasts_S1x1024x16_S1024x16) transposes_S1024x16_S16x1024_1_0 := by
    show StableHlo.after ops (V₀ m d) _ = _
    simp only [ops, op1, op2, op3, op4, op5, op6, op7, op8]
    after_results_simp
    rfl
  rw [e]
  refine (transpose_apply [1, 0] _ _ (ix2 n f) (ix2 f n) (fun b => by fin_cases b <;> rfl)).trans ?_
  refine (shapeCast_dropUnit_apply ![1024, 16] _ _ (ix2 f n)).trans (congrArg _ (funext fun a => ?_))
  match a with
  | ⟨0, _⟩ => rfl
  | ⟨1, _⟩ => rfl
  | ⟨2, _⟩ => rfl

theorem in_v7 (f : Fin 1024) (n : Fin 16) : (A₀ m d main_v7 : FVec Ideal S16x1024 .f32) (ix2 n f)
    = (m ((d.tc : Thread nD τ).loc main_arg4) : FVec Ideal S1x1024x16 .f32) (ix3 0 f n) := by
  have e : (A₀ m d main_v7 : FVec Ideal S16x1024 .f32)
      = transpose S16x1024 [1, 0] (shapeCast S1024x16 (m ((d.tc : Thread nD τ).loc main_arg4) : FVec Ideal S1x1024x16 .f32)
          shapeCasts_S1x1024x16_S1024x16) transposes_S1024x16_S16x1024_1_0 := by
    show StableHlo.after ops (V₀ m d) _ = _
    simp only [ops, op1, op2, op3, op4, op5, op6, op7, op8]
    after_results_simp
    rfl
  rw [e]
  refine (transpose_apply [1, 0] _ _ (ix2 n f) (ix2 f n) (fun b => by fin_cases b <;> rfl)).trans ?_
  refine (shapeCast_dropUnit_apply ![1024, 16] _ _ (ix2 f n)).trans (congrArg _ (funext fun a => ?_))
  match a with
  | ⟨0, _⟩ => rfl
  | ⟨1, _⟩ => rfl
  | ⟨2, _⟩ => rfl

/-- One entry of the table, of the arguments. -/
theorem tbl_apply (r : Fin 49) (f : Fin 1024) :
    tbl₀ m d (ix2 r f)
      = colVal (F := Ideal) ((m ((d.tc : Thread nD τ).loc main_arg1) : FVec Ideal S1x1024x1 .f32) (ix3 0 f 0))
          (fun n => (m ((d.tc : Thread nD τ).loc main_arg2) : FVec Ideal S1x1024x16 .f32) (ix3 0 f (Fin.ofNat 16 n)))
          ((m ((d.tc : Thread nD τ).loc main_arg3) : FVec Ideal S1x1024x1 .f32) (ix3 0 f 0))
          (fun n => (m ((d.tc : Thread nD τ).loc main_arg4) : FVec Ideal S1x1024x16 .f32) (ix3 0 f (Fin.ofNat 16 n))) r := by
  rw [← in_v1 m d f, ← in_v3 m d f]
  simp only [← in_v5 m d f, ← in_v7 m d f]
  rfl

end Cert.Proof.KernelIdeal

end
-- ==== Proof.RefVec.lean ====
/-
  The reference's result read at one element: its breakpoints are the scalar breakpoints of the table's column, and its sum
  over the sixteen segments is `refVal`.
-/
module

public import proofs.«01_k».proof.Proof.Math
public import proofs.«01_k».proof.Proof.Gen.ReferenceIdeal
public import proofs.«01_k».proof.Proof.Gen.ReferenceIdeal.Run
public import Idealize.ShloMosaic.Lib.Pointwise
public import Idealize.ShloMosaic.Lib.Pipeline.Value

@[expose] public section

noncomputable section

namespace Cert.Proof.RefVec

open Idealize.ShloMosaic Idealize.ShloMosaic.TcCoe Idealize.SL.Sem
open Cert.ReferenceIdeal Cert.ReferenceIdeal.Gen

section Vectors
variable {F : FTy → Type} [FloatOps F]

/-- The softplus of an array. -/
def spV (D : FVec F S1x1024x16 .f32) : FVec F S1x1024x16 .f32 :=
  let z : FVec F S1x1024x16 .f32 := broadcastInDim S1x1024x16 ![] bcast_S_S1x1024x16 (constant S_ .f32 0x00000000#32)
  select (cmpf .une (subf D z) (subf D z)) (addf D z)
    (addf (maximumf D z) (Host.log1p (Host.exp (Host.negf (Host.absf (subf D z))))))

/-- Its running sums along the last axis. -/
def cumV (D : FVec F S1x1024x16 .f32) : FVec F S1x1024x16 .f32 :=
  Host.reduceWindowAdd ![1, 1, 16] ![1, 1, 1] ![0, 0, 15] ![0, 0, 0] (spV D)
    (broadcastInDim S_ ![] bcast_S_S_ (constant S_ .f32 0x00000000#32))
    reduceWindows_S1x1024x16_S1x1024x16_w1s1p0_0_w1s1p0_0_w16s1p15_0 h_S_

/-- The breakpoints before they are rescaled. -/
def rawV (X : FVec F S1x1024x1 .f32) (D : FVec F S1x1024x16 .f32) : FVec F S1x1024x17 .f32 :=
  subf (concatenate S1x1024x17 2 [⟨S1x1024x1, X⟩, ⟨S1x1024x16,
      (addf (cumV D) (broadcastInDim S1x1024x16 ![0, 1, 2] bcast_S1x1024x1_S1x1024x16_0_1_2 X))⟩]
      concatenates_S1x1024x1_S1x1024x16_S1x1024x17_d2)
    (broadcastInDim S1x1024x17 ![] bcast_S_S1x1024x17 (constant S_ .f32 0x00000000#32))

/-- The breakpoints. -/
def pieceV (X : FVec F S1x1024x1 .f32) (D : FVec F S1x1024x16 .f32) : FVec F S1x1024x17 .f32 :=
  addf (mulf (rawV X D) (broadcastInDim S1x1024x17 ![0, 1, 2] bcast_S1x1024x1_S1x1024x17_0_1_2
      (Host.divf (broadcastInDim S1x1024x1 ![] bcast_S_S1x1024x1 (constant S_ .f32 0x3F800000#32))
        (subf (extractStridedSlice S1x1024x1 ![0, 0, 16] (rawV X D) slices_S1x1024x17_S1x1024x1_0_0_16)
          (extractStridedSlice S1x1024x1 ![0, 0, 0] (rawV X D) slices_S1x1024x17_S1x1024x1_0_0_0)))))
    (broadcastInDim S1x1024x17 ![] bcast_S_S1x1024x17 (constant S_ .f32 0x00000000#32))

/-- The result, from the element array and the two arrays of breakpoints and levels. -/
def outV (A : FVec F S8192x1024 .f32) (P Q : FVec F S1x1024x17 .f32) : FVec F S8192x1024 .f32 :=
  let A1 : FVec F S8192x1024x1 .f32 := broadcastInDim S8192x1024x1 ![0, 1] bcast_S8192x1024_S8192x1024x1_0_1 A
  let A16 : FVec F S8192x1024x16 .f32 := broadcastInDim S8192x1024x16 ![0, 1, 2] bcast_S8192x1024x1_S8192x1024x16_0_1_2 A1
  let P0 : FVec F S1x1024x16 .f32 := extractStridedSlice S1x1024x16 ![0, 0, 0] P slices_S1x1024x17_S1x1024x16_0_0_0
  let P1 : FVec F S1x1024x16 .f32 := extractStridedSlice S1x1024x16 ![0, 0, 1] P slices_S1x1024x17_S1x1024x16_0_0_1
  let Q0 : FVec F S1x1024x16 .f32 := extractStridedSlice S1x1024x16 ![0, 0, 0] Q slices_S1x1024x17_S1x1024x16_0_0_0
  let Q1 : FVec F S1x1024x16 .f32 := extractStridedSlice S1x1024x16 ![0, 0, 1] Q slices_S1x1024x17_S1x1024x16_0_0_1
  let up (v : FVec F S1x1024x16 .f32) : FVec F S8192x1024x16 .f32 :=
    broadcastInDim S8192x1024x16 ![0, 1, 2] bcast_S1x1024x16_S8192x1024x16_0_1_2 v
  let S : FVec F S1x1024x16 .f32 := Host.divf (subf Q1 Q0) (subf P1 P0)
  let Z : FVec F S8192x1024x1 .f32 := broadcastInDim S8192x1024x1 ![] bcast_S_S8192x1024x1 (constant S_ .f32 0x00000000#32)
  addf (addf
      (Host.reduceAdd (mulf (addf (mulf (subf A16 (up P0)) (up S)) (up Q0))
          (uitofp .f32 (andi (cmpf .oge A16 (up P0)) (cmpf .ole A16 (up P1)))))
        (constant S_ .f32 0x00000000#32) reducesTo_S8192x1024x16_S8192x1024_d2 h_S_)
      (shapeCast _ (mulf (uitofp .f32 (cmpf .olt A1 (broadcastInDim S8192x1024x1 ![0, 1, 2] bcast_S1x1024x1_S8192x1024x1_0_1_2
          (extractStridedSlice S1x1024x1 ![0, 0, 0] P slices_S1x1024x17_S1x1024x1_0_0_0)))) (addf A1 Z))
        shapeCasts_S8192x1024x1_S8192x1024))
    (shapeCast _ (mulf (uitofp .f32 (cmpf .ogt A1 (broadcastInDim S8192x1024x1 ![0, 1, 2] bcast_S1x1024x1_S8192x1024x1_0_1_2
        (extractStridedSlice S1x1024x1 ![0, 0, 16] P slices_S1x1024x17_S1x1024x1_0_0_16)))) (addf A1 Z))
      shapeCasts_S8192x1024x1_S8192x1024)

/-- The reference's result is `outV` of its arguments. -/
theorem res_eq (m : (ℓ : Loc nD τ sig) → Buf (Elt F) ℓ) (c : Dev nD) :
    Cert.ReferenceIdeal.Value.res_out0 (F := F) m c
      = outV (m ((c.tc : Thread nD τ).loc main_arg0))
          (pieceV (m ((c.tc : Thread nD τ).loc main_arg1)) (m ((c.tc : Thread nD τ).loc main_arg2)))
          (pieceV (m ((c.tc : Thread nD τ).loc main_arg3)) (m ((c.tc : Thread nD τ).loc main_arg4))) := rfl

end Vectors

/-! ## At one element, over the extended reals -/

open Cert.Proof.Seg

theorem spV_apply (D : FVec Ideal S1x1024x16 .f32) (f : Fin 1024) (e : Fin 16) :
    spV (F := Ideal) D (ix3 0 f e) = sp (F := Ideal) (D (ix3 0 f e)) := by
  rw [sp_ideal]
  unfold spV
  pointwise
  exact if_neg fun h => h rfl

/-- The window of the running sums. -/
abbrev winShape : Shape := ⟨3, ![1, 1, 16]⟩

theorem winShape_coord : ∀ n : Fin winShape.numel, (winShape.rowMajor.symm n 2).val = n.val := by decide

/-- What position `n` of the window for sum `e` holds: a softplus value, or 0 left of the first. -/
def winTerm (dx : ℕ → EReal) (e n : ℕ) : EReal := if 15 ≤ e + n then sp (F := Ideal) (dx (e + n - 15)) else 0

theorem foldl_finRange (N : ℕ) (g : EReal → ℕ → EReal) (z : EReal) :
    (List.finRange N).foldl (fun r n => g r n.val) z = (List.range N).foldl g z := by
  rw [← List.map_coe_finRange_eq_range, List.foldl_map]

theorem foldl_win_lo (dx : ℕ → EReal) (e : ℕ) : ∀ m, e + m ≤ 15 → (List.range m).foldl (fun r n => r + winTerm dx e n) 0 = 0
  | 0, _ => rfl
  | m + 1, h => by
    rw [List.range_succ, List.foldl_append, foldl_win_lo dx e m (by omega), List.foldl_cons, List.foldl_nil, winTerm,
      if_neg (by omega), add_zero]

theorem foldl_win_hi (dx : ℕ → EReal) (e : ℕ) (he : e ≤ 15) : ∀ j,
    (List.range (15 - e + (j + 1))).foldl (fun r n => r + winTerm dx e n) 0 = cum (F := Ideal) dx j
  | 0 => by
    rw [← Nat.add_assoc, Nat.add_zero, List.range_succ, List.foldl_append, foldl_win_lo dx e _ (by omega), List.foldl_cons,
      List.foldl_nil, winTerm, if_pos (by omega), zero_add, cum_zero, show e + (15 - e) - 15 = 0 by omega]
  | j + 1 => by
    rw [← Nat.add_assoc, List.range_succ, List.foldl_append, foldl_win_hi dx e he j, List.foldl_cons, List.foldl_nil, winTerm,
      if_pos (by omega), cum_succ, show e + (15 - e + (j + 1)) - 15 = j + 1 by omega]

/-- Adding up the window's terms from the left gives the running sum. -/
theorem foldl_win (dx : ℕ → EReal) (e : ℕ) (he : e ≤ 15) :
    (List.range 16).foldl (fun r n => r + winTerm dx e n) 0 = cum (F := Ideal) dx e := by
  rw [← foldl_win_hi dx e he e, show 15 - e + (e + 1) = 16 by omega]

/-- The running sums, one element: the sum of the softplus values up to it. -/
theorem cumV_apply (D : FVec Ideal S1x1024x16 .f32) (f : Fin 1024) (e : Fin 16) :
    cumV (F := Ideal) D (ix3 0 f e) = cum (F := Ideal) (fun n => D (ix3 0 f (Fin.ofNat 16 n))) e.val := by
  have hz : (broadcastInDim S_ ![] bcast_S_S_ (constant (F := Ideal) S_ .f32 0x00000000#32)) (Shape.Idx.first h_S_) = (0 : EReal) :=
    zero_ideal
  have key : cumV (F := Ideal) D (ix3 0 f e)
      = (List.finRange winShape.numel).foldl (fun r n => (r + winTerm (fun n => D (ix3 0 f (Fin.ofNat 16 n))) e.val n.val : EReal)) 0 := by
    unfold cumV Host.reduceWindowAdd
    rw [hz, Ideal.hostReduceWindowAdd_def]
    unfold Ideal.hostReduceWindowAdd Host.reduceWindow
    refine congrArg (fun g => (List.finRange winShape.numel).foldl g (0 : EReal)) (funext fun r => funext fun n => congrArg (r + ·) ?_)
    have hn := n.isLt
    have hn2 := winShape_coord n
    have h0 : (winShape.rowMajor.symm n 0).val = 0 := by have := (winShape.rowMajor.symm n 0).isLt; exact Nat.lt_one_iff.1 this
    have h1 : (winShape.rowMajor.symm n 1).val = 0 := by have := (winShape.rowMajor.symm n 1).isLt; exact Nat.lt_one_iff.1 this
    have he := e.isLt
    have hn16 : n.val < 16 := hn
    unfold winTerm
    by_cases h : 15 ≤ e.val + n.val
    · rw [dif_pos, if_pos h]
      · show spV (F := Ideal) D _ = sp (F := Ideal) (D (ix3 0 f (Fin.ofNat 16 (e.val + n.val - 15))))
        rw [← spV_apply]
        refine congrArg (spV (F := Ideal) D) (funext fun a => Fin.ext ?_)
        match a with
        | ⟨0, _⟩ => show 0 * 1 + (winShape.rowMajor.symm n 0).val - 0 = 0; omega
        | ⟨1, _⟩ => show f.val * 1 + (winShape.rowMajor.symm n 1).val - 0 = f.val; omega
        | ⟨2, _⟩ =>
          show e.val * 1 + (winShape.rowMajor.symm n 2).val - 15 = (e.val + n.val - 15) % 16
          omega
      · intro a
        match a with
        | ⟨0, _⟩ =>
          show 0 ≤ 0 * 1 + (winShape.rowMajor.symm n 0).val ∧ 0 * 1 + (winShape.rowMajor.symm n 0).val - 0 < 1
          omega
        | ⟨1, _⟩ =>
          show 0 ≤ f.val * 1 + (winShape.rowMajor.symm n 1).val ∧ f.val * 1 + (winShape.rowMajor.symm n 1).val - 0 < 1024
          omega
        | ⟨2, _⟩ =>
          show 15 ≤ e.val * 1 + (winShape.rowMajor.symm n 2).val ∧ e.val * 1 + (winShape.rowMajor.symm n 2).val - 15 < 16
          omega
    · rw [dif_neg, if_neg h]
      intro hin
      have h2 : 15 ≤ e.val * 1 + (winShape.rowMajor.symm n 2).val := (hin 2).1
      omega
  rw [key]
  show (List.finRange 16).foldl _ _ = _
  rw [← foldl_win (fun n => D (ix3 0 f (Fin.ofNat 16 n))) e.val (by omega)]
  exact foldl_finRange 16 (fun r n => (r + winTerm (fun n => D (ix3 0 f (Fin.ofNat 16 n))) e.val n : EReal)) 0

theorem rawV_zero (X : FVec Ideal S1x1024x1 .f32) (D : FVec Ideal S1x1024x16 .f32) (f : Fin 1024) :
    rawV (F := Ideal) X D (ix3 0 f 0) = raw (F := Ideal) (X (ix3 0 f 0)) (fun n => D (ix3 0 f (Fin.ofNat 16 n))) 0 := by
  rw [raw_zero]
  unfold rawV
  pointwise

theorem rawV_succ (X : FVec Ideal S1x1024x1 .f32) (D : FVec Ideal S1x1024x16 .f32) (f : Fin 1024) (e : Fin 16) :
    rawV (F := Ideal) X D (ix3 0 f e.succ) = raw (F := Ideal) (X (ix3 0 f 0)) (fun n => D (ix3 0 f (Fin.ofNat 16 n))) (e.val + 1) := by
  rw [raw_succ, ← cumV_apply]
  unfold rawV
  pointwise
  rw [dif_neg (by simp), add_comm]
  rfl

theorem rawV_apply (X : FVec Ideal S1x1024x1 .f32) (D : FVec Ideal S1x1024x16 .f32) (f : Fin 1024) (n : Fin 17) :
    rawV (F := Ideal) X D (ix3 0 f n) = raw (F := Ideal) (X (ix3 0 f 0)) (fun n => D (ix3 0 f (Fin.ofNat 16 n))) n.val := by
  refine Fin.cases ?_ (fun e => ?_) n
  · exact rawV_zero X D f
  · exact rawV_succ X D f e

/-- One breakpoint. -/
theorem pieceV_apply (X : FVec Ideal S1x1024x1 .f32) (D : FVec Ideal S1x1024x16 .f32) (f : Fin 1024) (n : Fin 17) :
    pieceV (F := Ideal) X D (ix3 0 f n) = piece (F := Ideal) (X (ix3 0 f 0)) (fun n => D (ix3 0 f (Fin.ofNat 16 n))) n.val := by
  rw [piece_eq, chg_eq]
  unfold pieceV
  pointwise
  rw [rawV_apply, rawV_apply, rawV_apply, ← raw_succ]
  rw [show ((0 : Fin 17) : ℕ) = 0 from rfl, raw_zero]
  rfl

/-- One element of the result. -/
theorem outV_apply (A : FVec Ideal S8192x1024 .f32) (P Q : FVec Ideal S1x1024x17 .f32) (p q : ℕ → EReal) (i : Fin 8192) (f : Fin 1024)
    (hp : ∀ n : Fin 17, P (ix3 0 f n) = p n.val) (hq : ∀ n : Fin 17, Q (ix3 0 f n) = q n.val) :
    outV (F := Ideal) A P Q (ix2 i f)
      = refVal p q (fun k => Ideal.div (q (k + 1) - q k) (p (k + 1) - p k)) (A (ix2 i f)) := by
  unfold outV
  pointwise
  simp only [hp, hq, Nat.add_comm 1]
  rfl

end Cert.Proof.RefVec

end
-- ==== Proof.Pre.lean ====
/-
  What the precondition says: the element hits no interior breakpoint of its feature, and every level step is a real.
-/
module

public import proofs.«01_k».proof.Proof.RefVec
public import proofs.«01_k».proof.Proof.Gen.Pre_single_segment
public import Idealize.ShloMosaic.Lib.ReduceAll

@[expose] public section

noncomputable section

namespace Cert.Proof.RefVec

open Idealize.ShloMosaic
open Cert.ReferenceIdeal Cert.ReferenceIdeal.Gen
open Cert.Proof.Seg

section Vectors
variable {F : FTy → Type} [FloatOps F]

/-- The bits of "the element is not the interior breakpoint", over every element, feature and interior breakpoint. -/
def neV (A : FVec F S8192x1024 .f32) (P : FVec F S1x1024x17 .f32) : IVec Cert.Pre_single_segment.S8192x1024x15 1 :=
  cmpf .une
    (broadcastInDim Cert.Pre_single_segment.S8192x1024x15 ![0, 1, 2] Cert.Pre_single_segment.Facts.bcast_S8192x1024x1_S8192x1024x15_0_1_2
      (broadcastInDim S8192x1024x1 ![0, 1] bcast_S8192x1024_S8192x1024x1_0_1 A))
    (broadcastInDim Cert.Pre_single_segment.S8192x1024x15 ![0, 1, 2] Cert.Pre_single_segment.Facts.bcast_S1x1024x15_S8192x1024x15_0_1_2
      (extractStridedSlice Cert.Pre_single_segment.S1x1024x15 ![0, 0, 1] P Cert.Pre_single_segment.Facts.slices_S1x1024x17_S1x1024x15_0_0_1))

/-- The bits of "the step is finite". -/
def finV (D : FVec F S1x1024x16 .f32) : IVec S1x1024x16 1 :=
  cmpf .olt (Host.absf D) (broadcastInDim S1x1024x16 ![] bcast_S_S1x1024x16 (constant S_ .f32 0x7F800000#32))

/-- The first bit is the conjunction of `neV`. -/
theorem pre_fst (A : FVec F S8192x1024 .f32) (X : FVec F S1x1024x1 .f32) (D : FVec F S1x1024x16 .f32)
    (Y : FVec F S1x1024x1 .f32) (E : FVec F S1x1024x16 .f32) :
    (Cert.Pre_single_segment.fn (F := F) A X D Y E).1
      = Host.reduce IntOp.andi (neV A (pieceV X D)) (constantI S_ 1 1#1) Cert.Pre_single_segment.Facts.reducesTo_S8192x1024x15_S_d0_1_2
          Cert.Pre_single_segment.Facts.h_S_ := by
  unfold Cert.Pre_single_segment.fn Cert.Pre_single_segment.fn_part1
  dsimp only
  rfl

/-- The second bit is the conjunction of `finV`. -/
theorem pre_snd (A : FVec F S8192x1024 .f32) (X : FVec F S1x1024x1 .f32) (D : FVec F S1x1024x16 .f32)
    (Y : FVec F S1x1024x1 .f32) (E : FVec F S1x1024x16 .f32) :
    (Cert.Pre_single_segment.fn (F := F) A X D Y E).2
      = Host.reduce IntOp.andi (finV E) (constantI S_ 1 1#1) Cert.Pre_single_segment.Facts.reducesTo_S1x1024x16_S_d0_1_2
          Cert.Pre_single_segment.Facts.h_S_ := by
  unfold Cert.Pre_single_segment.fn Cert.Pre_single_segment.fn_part1
  dsimp only
  rfl

end Vectors

/-- No element hits an interior breakpoint of its feature. -/
theorem pre_ne (A : FVec Ideal S8192x1024 .f32) (X : FVec Ideal S1x1024x1 .f32) (D : FVec Ideal S1x1024x16 .f32)
    (Y : FVec Ideal S1x1024x1 .f32) (E : FVec Ideal S1x1024x16 .f32)
    (h : (Cert.Pre_single_segment.fn (F := Ideal) A X D Y E).1 = fun _ => 1#1) (i : Fin 8192) (f : Fin 1024) (n : ℕ) (h1 : 1 ≤ n)
    (h15 : n ≤ 15) :
    A (ix2 i f) ≠ piece (F := Ideal) (X (ix3 0 f 0)) (fun n => D (ix3 0 f (Fin.ofNat 16 n))) n := by
  rw [pre_fst] at h
  have hb : neV A (pieceV X D) (ix3 i f ⟨n - 1, by omega⟩) = 1#1 :=
    Host.reduce_andi_eq_one _ _ _ _ ix0 (congrFun h ix0) _ (Subsingleton.elim _ _)
  unfold neV at hb
  pointwise at hb
  have hne : A (ix2 i f) ≠ pieceV X D (ix3 0 f ⟨1 + (n - 1), by omega⟩) := by
    intro he
    rw [he] at hb
    simp at hb
  rw [pieceV_apply, show ((⟨1 + (n - 1), by omega⟩ : Fin 17) : ℕ) = n by show 1 + (n - 1) = n; omega] at hne
  exact hne

/-- Every level step is a real. -/
theorem pre_real (A : FVec Ideal S8192x1024 .f32) (X : FVec Ideal S1x1024x1 .f32) (D : FVec Ideal S1x1024x16 .f32)
    (Y : FVec Ideal S1x1024x1 .f32) (E : FVec Ideal S1x1024x16 .f32)
    (h : (Cert.Pre_single_segment.fn (F := Ideal) A X D Y E).2 = fun _ => 1#1) (f : Fin 1024) (e : Fin 16) :
    ∃ r : ℝ, E (ix3 0 f e) = (r : EReal) := by
  rw [pre_snd] at h
  have hb : finV E (ix3 0 f e) = 1#1 :=
    Host.reduce_andi_eq_one _ _ _ _ ix0 (congrFun h ix0) _ (Subsingleton.elim _ _)
  unfold finV at hb
  pointwise at hb
  have htop : Ideal.ofBits .f32 0x7F800000#32 = (⊤ : EReal) := by simp [Ideal.ofBits, Ideal.ieee]
  rw [htop] at hb
  have hlt : max (E (ix3 0 f e)) (-(E (ix3 0 f e)) : EReal) < ⊤ := by
    by_contra hc
    rw [show FloatOps.absf (E (ix3 0 f e)) = max (E (ix3 0 f e)) (-(E (ix3 0 f e)) : EReal) from rfl, decide_eq_false hc] at hb
    exact absurd hb (by decide)
  refine ⟨_, (EReal.coe_toReal (fun ht => ?_) (fun hbt => ?_)).symm⟩
  · rw [ht] at hlt; simp at hlt
  · rw [hbt] at hlt; simp at hlt

end Cert.Proof.RefVec

end
-- ==== Proof.Value.lean ====
/-
  The value claim: over the extended reals the kernel's result is the reference's, element by element, wherever no element
  hits an interior breakpoint of its feature and every level step is finite.
-/
module

public import proofs.«01_k».proof.Defs
public import proofs.«01_k».proof.Proof.KernelArgs
public import proofs.«01_k».proof.Proof.Pre

@[expose] public section

noncomputable section

namespace Cert.Proof

open Idealize.ShloMosaic Idealize.ShloMosaic.TcCoe Idealize.SL.Sem
open Cert.Proof.Seg Cert.Proof.RefVec

/-- What the kernel leaves in its result is the reference's result array of the same arguments. -/
theorem out_eq (m : (ℓ : Loc Cert.KernelIdeal.nD Cert.KernelIdeal.τ Cert.KernelIdeal.sig) → Buf (Elt Ideal) ℓ) (h : Pre_KernelIdeal_single_segment m)
    (c : Dev Cert.KernelIdeal.nD) :
    Cert.Proof.KernelIdeal.outVal (Cert.Proof.KernelIdeal.tbl₀ m c) (Cert.Proof.KernelIdeal.x₀ m c)
      = outV (F := Ideal) (m ((c.tc : Thread Cert.KernelIdeal.nD Cert.KernelIdeal.τ).loc Cert.KernelIdeal.main_arg0))
          (pieceV (m ((c.tc : Thread Cert.KernelIdeal.nD Cert.KernelIdeal.τ).loc Cert.KernelIdeal.main_arg1))
            (m ((c.tc : Thread Cert.KernelIdeal.nD Cert.KernelIdeal.τ).loc Cert.KernelIdeal.main_arg2)))
          (pieceV (m ((c.tc : Thread Cert.KernelIdeal.nD Cert.KernelIdeal.τ).loc Cert.KernelIdeal.main_arg3))
            (m ((c.tc : Thread Cert.KernelIdeal.nD Cert.KernelIdeal.τ).loc Cert.KernelIdeal.main_arg4))) := by
  obtain ⟨h1, h2⟩ := h c
  funext j
  obtain ⟨i, f, rfl⟩ : ∃ (i : Fin 8192) (f : Fin 1024), j = ix2 i f := ⟨j 0, j 1, eq_ix2 j⟩
  rw [outV_apply _ _ _ _ _ i f (fun n => pieceV_apply _ _ f n) (fun n => pieceV_apply _ _ f n)]
  show kval (F := Ideal) (fun r => Cert.Proof.KernelIdeal.tbl₀ m c (ix2 r f)) _ = _
  rw [show (fun r => Cert.Proof.KernelIdeal.tbl₀ m c (ix2 r f)) = _ from funext fun r => Cert.Proof.KernelIdeal.tbl_apply m c r f]
  exact kval_eq _ _ _ _ _ (fun n => pre_real _ _ _ _ _ h2 f _) (fun n a b => pre_ne _ _ _ _ _ h1 i f n a b)

/-- The kernel on extended reals and the reference on extended reals leave the same result. -/
theorem algebraic : Cert.algebraic_KernelIdeal_ReferenceIdeal_pre_single_segment := by
  intro m ρ m' ρ' hpre hagree
  refine ⟨fun c => Cert.Proof.KernelIdeal.outVal (Cert.Proof.KernelIdeal.tbl₀ m c) (Cert.Proof.KernelIdeal.x₀ m c), ?_, ?_⟩
  · exact (θ_run Cert.KernelIdeal.defs _ _).mono (fun _ h c => h.1 c) (Cert.Proof.KernelIdeal.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4⟩ := hagree c
    refine (res_eq m' c).trans ?_
    rw [e0, e1, e2, e3, e4]
    exact (out_eq m hpre c).symm

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_single_segment
public import proofs.«01_k».proof.Proof.Frames
public import proofs.«01_k».proof.Proof.Value

@[expose] public section

noncomputable section

namespace Cert.Proof

/-- Everything the certificate claims: the frames of the three programs (each again under the precondition where the value
    claim states it), that idealization preserved the kernel, and the value claim. -/
theorem claim : Cert.Claim :=
  ⟨Cert.Kernel.Gen.facts, Cert.KernelIdeal.Gen.facts, Cert.ReferenceIdeal.Gen.facts, Cert.Pre_single_segment.Gen.facts,
    frame_kernel, frame_ideal, frame_ideal_pre, frame_reference, frame_reference_pre, trivial, algebraic⟩

end Cert.Proof

end
